-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x1024 : Shape := ⟨3, ![4, 256, 1024]⟩
abbrev S1024x1024 : Shape := ⟨2, ![1024, 1024]⟩
abbrev S31x32x1024 : Shape := ⟨3, ![31, 32, 1024]⟩
abbrev S32x1024 : Shape := ⟨2, ![32, 1024]⟩
abbrev S31 : Shape := ⟨1, ![31]⟩
abbrev S_ : Shape := ⟨0, ![]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x32x1024 : Shape := ⟨3, ![1, 32, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x256x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S31x32x1024, .bf16⟩
  | .local _ .vmem, ⟨10, _⟩ => ⟨S31x32x1024, .bf16⟩
  | .local _ .vmem, ⟨11, _⟩ => ⟨S32x1024, .bf16⟩
  | _, _ => ⟨S4x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_516 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1038 : BitVec 32 := Scalar.addi v2 c1_i32_516
  let c32_i32_517 : BitVec 32 := 32#32
  let c0_i32_518 : BitVec 32 := 0#32
  let v1039 : BitVec 1 := Scalar.cmpi .eq c32_i32_517 c0_i32_518
  let c1_i32_519 : BitVec 32 := 1#32
  let v1040 : BitVec 32 := Scalar.select v1039 c1_i32_519 c32_i32_517
  let v1041 : BitVec 32 := Scalar.remsi v1038 v1040
  let c0_i32_521 : BitVec 32 := 0#32
  let v1043 : BitVec 1 := Scalar.cmpi .slt v1041 c0_i32_521
  let c0_i32_522 : BitVec 32 := 0#32
  let v1044 : BitVec 1 := Scalar.cmpi .slt v1040 c0_i32_522
  let v1045 : BitVec 1 := Scalar.xori v1043 v1044
  let c0_i32_520 : BitVec 32 := 0#32
  let v1042 : BitVec 1 := Scalar.cmpi .ne v1041 c0_i32_520
  let v1046 : BitVec 1 := Scalar.andi v1045 v1042
  let v1047 : BitVec 32 := Scalar.addi v1041 v1040
  let v1048 : BitVec 32 := Scalar.select v1046 v1047 v1041
  let c32_i32_523 : BitVec 32 := 32#32
  let v1049 : BitVec 32 := Scalar.muli v1048 c32_i32_523
  let c0_i32_531 : BitVec 32 := 0#32
  ![v1049.toNat, 0]
def k0_dev32 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_516 : BitVec 32 := 1#32
  let v1038 : BitVec 32 := Scalar.addi v2 c1_i32_516
  let c32_i32_517 : BitVec 32 := 32#32
  let c0_i32_518 : BitVec 32 := 0#32
  let v1039 : BitVec 1 := Scalar.cmpi .eq c32_i32_517 c0_i32_518
  let c1_i32_519 : BitVec 32 := 1#32
  let v1040 : BitVec 32 := Scalar.select v1039 c1_i32_519 c32_i32_517
  let v1041 : BitVec 32 := Scalar.remsi v1038 v1040
  let c0_i32_521 : BitVec 32 := 0#32
  let v1043 : BitVec 1 := Scalar.cmpi .slt v1041 c0_i32_521
  let c0_i32_522 : BitVec 32 := 0#32
  let v1044 : BitVec 1 := Scalar.cmpi .slt v1040 c0_i32_522
  let v1045 : BitVec 1 := Scalar.xori v1043 v1044
  let c0_i32_520 : BitVec 32 := 0#32
  let v1042 : BitVec 1 := Scalar.cmpi .ne v1041 c0_i32_520
  let v1046 : BitVec 1 := Scalar.andi v1045 v1042
  let v1047 : BitVec 32 := Scalar.addi v1041 v1040
  let v1048 : BitVec 32 := Scalar.select v1046 v1047 v1041
  let c1_i32_527 : BitVec 32 := 1#32
  let v1050 : BitVec 32 := Scalar.muli v1048 c1_i32_527
  let v1051 : BitVec 32 := Scalar.addi c0_i32_528 v1050
  v1051.toNat
def k0_dev33 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_532 : BitVec 32 := 2#32
  let v1059 : BitVec 32 := Scalar.addi v2 c2_i32_532
  let c32_i32_533 : BitVec 32 := 32#32
  let c0_i32_534 : BitVec 32 := 0#32
  let v1060 : BitVec 1 := Scalar.cmpi .eq c32_i32_533 c0_i32_534
  let c1_i32_535 : BitVec 32 := 1#32
  let v1061 : BitVec 32 := Scalar.select v1060 c1_i32_535 c32_i32_533
  let v1062 : BitVec 32 := Scalar.remsi v1059 v1061
  let c0_i32_537 : BitVec 32 := 0#32
  let v1064 : BitVec 1 := Scalar.cmpi .slt v1062 c0_i32_537
  let c0_i32_538 : BitVec 32 := 0#32
  let v1065 : BitVec 1 := Scalar.cmpi .slt v1061 c0_i32_538
  let v1066 : BitVec 1 := Scalar.xori v1064 v1065
  let c0_i32_536 : BitVec 32 := 0#32
  let v1063 : BitVec 1 := Scalar.cmpi .ne v1062 c0_i32_536
  let v1067 : BitVec 1 := Scalar.andi v1066 v1063
  let v1068 : BitVec 32 := Scalar.addi v1062 v1061
  let v1069 : BitVec 32 := Scalar.select v1067 v1068 v1062
  let c1_i32_543 : BitVec 32 := 1#32
  let v1071 : BitVec 32 := Scalar.muli v1069 c1_i32_543
  let v1072 : BitVec 32 := Scalar.addi c0_i32_544 v1071
  v1072.toNat
def k0_dev34 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_548 : BitVec 32 := 3#32
  let v1080 : BitVec 32 := Scalar.addi v2 c3_i32_548
  let c32_i32_549 : BitVec 32 := 32#32
  let c0_i32_550 : BitVec 32 := 0#32
  let v1081 : BitVec 1 := Scalar.cmpi .eq c32_i32_549 c0_i32_550
  let c1_i32_551 : BitVec 32 := 1#32
  let v1082 : BitVec 32 := Scalar.select v1081 c1_i32_551 c32_i32_549
  let v1083 : BitVec 32 := Scalar.remsi v1080 v1082
  let c0_i32_553 : BitVec 32 := 0#32
  let v1085 : BitVec 1 := Scalar.cmpi .slt v1083 c0_i32_553
  let c0_i32_554 : BitVec 32 := 0#32
  let v1086 : BitVec 1 := Scalar.cmpi .slt v1082 c0_i32_554
  let v1087 : BitVec 1 := Scalar.xori v1085 v1086
  let c0_i32_552 : BitVec 32 := 0#32
  let v1084 : BitVec 1 := Scalar.cmpi .ne v1083 c0_i32_552
  let v1088 : BitVec 1 := Scalar.andi v1087 v1084
  let v1089 : BitVec 32 := Scalar.addi v1083 v1082
  let v1090 : BitVec 32 := Scalar.select v1088 v1089 v1083
  let c1_i32_559 : BitVec 32 := 1#32
  let v1092 : BitVec 32 := Scalar.muli v1090 c1_i32_559
  let v1093 : BitVec 32 := Scalar.addi c0_i32_560 v1092
  v1093.toNat
def k0_dev35 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_564 : BitVec 32 := 4#32
  let v1101 : BitVec 32 := Scalar.addi v2 c4_i32_564
  let c32_i32_565 : BitVec 32 := 32#32
  let c0_i32_566 : BitVec 32 := 0#32
  let v1102 : BitVec 1 := Scalar.cmpi .eq c32_i32_565 c0_i32_566
  let c1_i32_567 : BitVec 32 := 1#32
  let v1103 : BitVec 32 := Scalar.select v1102 c1_i32_567 c32_i32_565
  let v1104 : BitVec 32 := Scalar.remsi v1101 v1103
  let c0_i32_569 : BitVec 32 := 0#32
  let v1106 : BitVec 1 := Scalar.cmpi .slt v1104 c0_i32_569
  let c0_i32_570 : BitVec 32 := 0#32
  let v1107 : BitVec 1 := Scalar.cmpi .slt v1103 c0_i32_570
  let v1108 : BitVec 1 := Scalar.xori v1106 v1107
  let c0_i32_568 : BitVec 32 := 0#32
  let v1105 : BitVec 1 := Scalar.cmpi .ne v1104 c0_i32_568
  let v1109 : BitVec 1 := Scalar.andi v1108 v1105
  let v1110 : BitVec 32 := Scalar.addi v1104 v1103
  let v1111 : BitVec 32 := Scalar.select v1109 v1110 v1104
  let c1_i32_575 : BitVec 32 := 1#32
  let v1113 : BitVec 32 := Scalar.muli v1111 c1_i32_575
  let v1114 : BitVec 32 := Scalar.addi c0_i32_576 v1113
  v1114.toNat
def k0_dev36 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_580 : BitVec 32 := 5#32
  let v1122 : BitVec 32 := Scalar.addi v2 c5_i32_580
  let c32_i32_581 : BitVec 32 := 32#32
  let c0_i32_582 : BitVec 32 := 0#32
  let v1123 : BitVec 1 := Scalar.cmpi .eq c32_i32_581 c0_i32_582
  let c1_i32_583 : BitVec 32 := 1#32
  let v1124 : BitVec 32 := Scalar.select v1123 c1_i32_583 c32_i32_581
  let v1125 : BitVec 32 := Scalar.remsi v1122 v1124
  let c0_i32_585 : BitVec 32 := 0#32
  let v1127 : BitVec 1 := Scalar.cmpi .slt v1125 c0_i32_585
  let c0_i32_586 : BitVec 32 := 0#32
  let v1128 : BitVec 1 := Scalar.cmpi .slt v1124 c0_i32_586
  let v1129 : BitVec 1 := Scalar.xori v1127 v1128
  let c0_i32_584 : BitVec 32 := 0#32
  let v1126 : BitVec 1 := Scalar.cmpi .ne v1125 c0_i32_584
  let v1130 : BitVec 1 := Scalar.andi v1129 v1126
  let v1131 : BitVec 32 := Scalar.addi v1125 v1124
  let v1132 : BitVec 32 := Scalar.select v1130 v1131 v1125
  let c1_i32_591 : BitVec 32 := 1#32
  let v1134 : BitVec 32 := Scalar.muli v1132 c1_i32_591
  let v1135 : BitVec 32 := Scalar.addi c0_i32_592 v1134
  v1135.toNat
def k0_dev37 (d0 : Dev nD) : Nat :=
  let c0_i32_608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_596 : BitVec 32 := 6#32
  let v1143 : BitVec 32 := Scalar.addi v2 c6_i32_596
  let c32_i32_597 : BitVec 32 := 32#32
  let c0_i32_598 : BitVec 32 := 0#32
  let v1144 : BitVec 1 := Scalar.cmpi .eq c32_i32_597 c0_i32_598
  let c1_i32_599 : BitVec 32 := 1#32
  let v1145 : BitVec 32 := Scalar.select v1144 c1_i32_599 c32_i32_597
  let v1146 : BitVec 32 := Scalar.remsi v1143 v1145
  let c0_i32_601 : BitVec 32 := 0#32
  let v1148 : BitVec 1 := Scalar.cmpi .slt v1146 c0_i32_601
  let c0_i32_602 : BitVec 32 := 0#32
  let v1149 : BitVec 1 := Scalar.cmpi .slt v1145 c0_i32_602
  let v1150 : BitVec 1 := Scalar.xori v1148 v1149
  let c0_i32_600 : BitVec 32 := 0#32
  let v1147 : BitVec 1 := Scalar.cmpi .ne v1146 c0_i32_600
  let v1151 : BitVec 1 := Scalar.andi v1150 v1147
  let v1152 : BitVec 32 := Scalar.addi v1146 v1145
  let v1153 : BitVec 32 := Scalar.select v1151 v1152 v1146
  let c1_i32_607 : BitVec 32 := 1#32
  let v1155 : BitVec 32 := Scalar.muli v1153 c1_i32_607
  let v1156 : BitVec 32 := Scalar.addi c0_i32_608 v1155
  v1156.toNat
def k0_dev38 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_612 : BitVec 32 := 7#32
  let v1164 : BitVec 32 := Scalar.addi v2 c7_i32_612
  let c32_i32_613 : BitVec 32 := 32#32
  let c0_i32_614 : BitVec 32 := 0#32
  let v1165 : BitVec 1 := Scalar.cmpi .eq c32_i32_613 c0_i32_614
  let c1_i32_615 : BitVec 32 := 1#32
  let v1166 : BitVec 32 := Scalar.select v1165 c1_i32_615 c32_i32_613
  let v1167 : BitVec 32 := Scalar.remsi v1164 v1166
  let c0_i32_617 : BitVec 32 := 0#32
  let v1169 : BitVec 1 := Scalar.cmpi .slt v1167 c0_i32_617
  let c0_i32_618 : BitVec 32 := 0#32
  let v1170 : BitVec 1 := Scalar.cmpi .slt v1166 c0_i32_618
  let v1171 : BitVec 1 := Scalar.xori v1169 v1170
  let c0_i32_616 : BitVec 32 := 0#32
  let v1168 : BitVec 1 := Scalar.cmpi .ne v1167 c0_i32_616
  let v1172 : BitVec 1 := Scalar.andi v1171 v1168
  let v1173 : BitVec 32 := Scalar.addi v1167 v1166
  let v1174 : BitVec 32 := Scalar.select v1172 v1173 v1167
  let c1_i32_623 : BitVec 32 := 1#32
  let v1176 : BitVec 32 := Scalar.muli v1174 c1_i32_623
  let v1177 : BitVec 32 := Scalar.addi c0_i32_624 v1176
  v1177.toNat
def k0_dev39 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_628 : BitVec 32 := 8#32
  let v1185 : BitVec 32 := Scalar.addi v2 c8_i32_628
  let c32_i32_629 : BitVec 32 := 32#32
  let c0_i32_630 : BitVec 32 := 0#32
  let v1186 : BitVec 1 := Scalar.cmpi .eq c32_i32_629 c0_i32_630
  let c1_i32_631 : BitVec 32 := 1#32
  let v1187 : BitVec 32 := Scalar.select v1186 c1_i32_631 c32_i32_629
  let v1188 : BitVec 32 := Scalar.remsi v1185 v1187
  let c0_i32_633 : BitVec 32 := 0#32
  let v1190 : BitVec 1 := Scalar.cmpi .slt v1188 c0_i32_633
  let c0_i32_634 : BitVec 32 := 0#32
  let v1191 : BitVec 1 := Scalar.cmpi .slt v1187 c0_i32_634
  let v1192 : BitVec 1 := Scalar.xori v1190 v1191
  let c0_i32_632 : BitVec 32 := 0#32
  let v1189 : BitVec 1 := Scalar.cmpi .ne v1188 c0_i32_632
  let v1193 : BitVec 1 := Scalar.andi v1192 v1189
  let v1194 : BitVec 32 := Scalar.addi v1188 v1187
  let v1195 : BitVec 32 := Scalar.select v1193 v1194 v1188
  let c1_i32_639 : BitVec 32 := 1#32
  let v1197 : BitVec 32 := Scalar.muli v1195 c1_i32_639
  let v1198 : BitVec 32 := Scalar.addi c0_i32_640 v1197
  v1198.toNat
def k0_dev40 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_644 : BitVec 32 := 9#32
  let v1206 : BitVec 32 := Scalar.addi v2 c9_i32_644
  let c32_i32_645 : BitVec 32 := 32#32
  let c0_i32_646 : BitVec 32 := 0#32
  let v1207 : BitVec 1 := Scalar.cmpi .eq c32_i32_645 c0_i32_646
  let c1_i32_647 : BitVec 32 := 1#32
  let v1208 : BitVec 32 := Scalar.select v1207 c1_i32_647 c32_i32_645
  let v1209 : BitVec 32 := Scalar.remsi v1206 v1208
  let c0_i32_649 : BitVec 32 := 0#32
  let v1211 : BitVec 1 := Scalar.cmpi .slt v1209 c0_i32_649
  let c0_i32_650 : BitVec 32 := 0#32
  let v1212 : BitVec 1 := Scalar.cmpi .slt v1208 c0_i32_650
  let v1213 : BitVec 1 := Scalar.xori v1211 v1212
  let c0_i32_648 : BitVec 32 := 0#32
  let v1210 : BitVec 1 := Scalar.cmpi .ne v1209 c0_i32_648
  let v1214 : BitVec 1 := Scalar.andi v1213 v1210
  let v1215 : BitVec 32 := Scalar.addi v1209 v1208
  let v1216 : BitVec 32 := Scalar.select v1214 v1215 v1209
  let c1_i32_655 : BitVec 32 := 1#32
  let v1218 : BitVec 32 := Scalar.muli v1216 c1_i32_655
  let v1219 : BitVec 32 := Scalar.addi c0_i32_656 v1218
  v1219.toNat
def k0_dev41 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_660 : BitVec 32 := 10#32
  let v1227 : BitVec 32 := Scalar.addi v2 c10_i32_660
  let c32_i32_661 : BitVec 32 := 32#32
  let c0_i32_662 : BitVec 32 := 0#32
  let v1228 : BitVec 1 := Scalar.cmpi .eq c32_i32_661 c0_i32_662
  let c1_i32_663 : BitVec 32 := 1#32
  let v1229 : BitVec 32 := Scalar.select v1228 c1_i32_663 c32_i32_661
  let v1230 : BitVec 32 := Scalar.remsi v1227 v1229
  let c0_i32_665 : BitVec 32 := 0#32
  let v1232 : BitVec 1 := Scalar.cmpi .slt v1230 c0_i32_665
  let c0_i32_666 : BitVec 32 := 0#32
  let v1233 : BitVec 1 := Scalar.cmpi .slt v1229 c0_i32_666
  let v1234 : BitVec 1 := Scalar.xori v1232 v1233
  let c0_i32_664 : BitVec 32 := 0#32
  let v1231 : BitVec 1 := Scalar.cmpi .ne v1230 c0_i32_664
  let v1235 : BitVec 1 := Scalar.andi v1234 v1231
  let v1236 : BitVec 32 := Scalar.addi v1230 v1229
  let v1237 : BitVec 32 := Scalar.select v1235 v1236 v1230
  let c1_i32_671 : BitVec 32 := 1#32
  let v1239 : BitVec 32 := Scalar.muli v1237 c1_i32_671
  let v1240 : BitVec 32 := Scalar.addi c0_i32_672 v1239
  v1240.toNat
def k0_dev42 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_676 : BitVec 32 := 11#32
  let v1248 : BitVec 32 := Scalar.addi v2 c11_i32_676
  let c32_i32_677 : BitVec 32 := 32#32
  let c0_i32_678 : BitVec 32 := 0#32
  let v1249 : BitVec 1 := Scalar.cmpi .eq c32_i32_677 c0_i32_678
  let c1_i32_679 : BitVec 32 := 1#32
  let v1250 : BitVec 32 := Scalar.select v1249 c1_i32_679 c32_i32_677
  let v1251 : BitVec 32 := Scalar.remsi v1248 v1250
  let c0_i32_681 : BitVec 32 := 0#32
  let v1253 : BitVec 1 := Scalar.cmpi .slt v1251 c0_i32_681
  let c0_i32_682 : BitVec 32 := 0#32
  let v1254 : BitVec 1 := Scalar.cmpi .slt v1250 c0_i32_682
  let v1255 : BitVec 1 := Scalar.xori v1253 v1254
  let c0_i32_680 : BitVec 32 := 0#32
  let v1252 : BitVec 1 := Scalar.cmpi .ne v1251 c0_i32_680
  let v1256 : BitVec 1 := Scalar.andi v1255 v1252
  let v1257 : BitVec 32 := Scalar.addi v1251 v1250
  let v1258 : BitVec 32 := Scalar.select v1256 v1257 v1251
  let c1_i32_687 : BitVec 32 := 1#32
  let v1260 : BitVec 32 := Scalar.muli v1258 c1_i32_687
  let v1261 : BitVec 32 := Scalar.addi c0_i32_688 v1260
  v1261.toNat
def k0_dev43 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_692 : BitVec 32 := 12#32
  let v1269 : BitVec 32 := Scalar.addi v2 c12_i32_692
  let c32_i32_693 : BitVec 32 := 32#32
  let c0_i32_694 : BitVec 32 := 0#32
  let v1270 : BitVec 1 := Scalar.cmpi .eq c32_i32_693 c0_i32_694
  let c1_i32_695 : BitVec 32 := 1#32
  let v1271 : BitVec 32 := Scalar.select v1270 c1_i32_695 c32_i32_693
  let v1272 : BitVec 32 := Scalar.remsi v1269 v1271
  let c0_i32_697 : BitVec 32 := 0#32
  let v1274 : BitVec 1 := Scalar.cmpi .slt v1272 c0_i32_697
  let c0_i32_698 : BitVec 32 := 0#32
  let v1275 : BitVec 1 := Scalar.cmpi .slt v1271 c0_i32_698
  let v1276 : BitVec 1 := Scalar.xori v1274 v1275
  let c0_i32_696 : BitVec 32 := 0#32
  let v1273 : BitVec 1 := Scalar.cmpi .ne v1272 c0_i32_696
  let v1277 : BitVec 1 := Scalar.andi v1276 v1273
  let v1278 : BitVec 32 := Scalar.addi v1272 v1271
  let v1279 : BitVec 32 := Scalar.select v1277 v1278 v1272
  let c1_i32_703 : BitVec 32 := 1#32
  let v1281 : BitVec 32 := Scalar.muli v1279 c1_i32_703
  let v1282 : BitVec 32 := Scalar.addi c0_i32_704 v1281
  v1282.toNat
def k0_dev44 (d0 : Dev nD) : Nat :=
  let c0_i32_720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_708 : BitVec 32 := 13#32
  let v1290 : BitVec 32 := Scalar.addi v2 c13_i32_708
  let c32_i32_709 : BitVec 32 := 32#32
  let c0_i32_710 : BitVec 32 := 0#32
  let v1291 : BitVec 1 := Scalar.cmpi .eq c32_i32_709 c0_i32_710
  let c1_i32_711 : BitVec 32 := 1#32
  let v1292 : BitVec 32 := Scalar.select v1291 c1_i32_711 c32_i32_709
  let v1293 : BitVec 32 := Scalar.remsi v1290 v1292
  let c0_i32_713 : BitVec 32 := 0#32
  let v1295 : BitVec 1 := Scalar.cmpi .slt v1293 c0_i32_713
  let c0_i32_714 : BitVec 32 := 0#32
  let v1296 : BitVec 1 := Scalar.cmpi .slt v1292 c0_i32_714
  let v1297 : BitVec 1 := Scalar.xori v1295 v1296
  let c0_i32_712 : BitVec 32 := 0#32
  let v1294 : BitVec 1 := Scalar.cmpi .ne v1293 c0_i32_712
  let v1298 : BitVec 1 := Scalar.andi v1297 v1294
  let v1299 : BitVec 32 := Scalar.addi v1293 v1292
  let v1300 : BitVec 32 := Scalar.select v1298 v1299 v1293
  let c1_i32_719 : BitVec 32 := 1#32
  let v1302 : BitVec 32 := Scalar.muli v1300 c1_i32_719
  let v1303 : BitVec 32 := Scalar.addi c0_i32_720 v1302
  v1303.toNat
def k0_dev45 (d0 : Dev nD) : Nat :=
  let c0_i32_736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_724 : BitVec 32 := 14#32
  let v1311 : BitVec 32 := Scalar.addi v2 c14_i32_724
  let c32_i32_725 : BitVec 32 := 32#32
  let c0_i32_726 : BitVec 32 := 0#32
  let v1312 : BitVec 1 := Scalar.cmpi .eq c32_i32_725 c0_i32_726
  let c1_i32_727 : BitVec 32 := 1#32
  let v1313 : BitVec 32 := Scalar.select v1312 c1_i32_727 c32_i32_725
  let v1314 : BitVec 32 := Scalar.remsi v1311 v1313
  let c0_i32_729 : BitVec 32 := 0#32
  let v1316 : BitVec 1 := Scalar.cmpi .slt v1314 c0_i32_729
  let c0_i32_730 : BitVec 32 := 0#32
  let v1317 : BitVec 1 := Scalar.cmpi .slt v1313 c0_i32_730
  let v1318 : BitVec 1 := Scalar.xori v1316 v1317
  let c0_i32_728 : BitVec 32 := 0#32
  let v1315 : BitVec 1 := Scalar.cmpi .ne v1314 c0_i32_728
  let v1319 : BitVec 1 := Scalar.andi v1318 v1315
  let v1320 : BitVec 32 := Scalar.addi v1314 v1313
  let v1321 : BitVec 32 := Scalar.select v1319 v1320 v1314
  let c1_i32_735 : BitVec 32 := 1#32
  let v1323 : BitVec 32 := Scalar.muli v1321 c1_i32_735
  let v1324 : BitVec 32 := Scalar.addi c0_i32_736 v1323
  v1324.toNat
def k0_dev46 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_740 : BitVec 32 := 15#32
  let v1332 : BitVec 32 := Scalar.addi v2 c15_i32_740
  let c32_i32_741 : BitVec 32 := 32#32
  let c0_i32_742 : BitVec 32 := 0#32
  let v1333 : BitVec 1 := Scalar.cmpi .eq c32_i32_741 c0_i32_742
  let c1_i32_743 : BitVec 32 := 1#32
  let v1334 : BitVec 32 := Scalar.select v1333 c1_i32_743 c32_i32_741
  let v1335 : BitVec 32 := Scalar.remsi v1332 v1334
  let c0_i32_745 : BitVec 32 := 0#32
  let v1337 : BitVec 1 := Scalar.cmpi .slt v1335 c0_i32_745
  let c0_i32_746 : BitVec 32 := 0#32
  let v1338 : BitVec 1 := Scalar.cmpi .slt v1334 c0_i32_746
  let v1339 : BitVec 1 := Scalar.xori v1337 v1338
  let c0_i32_744 : BitVec 32 := 0#32
  let v1336 : BitVec 1 := Scalar.cmpi .ne v1335 c0_i32_744
  let v1340 : BitVec 1 := Scalar.andi v1339 v1336
  let v1341 : BitVec 32 := Scalar.addi v1335 v1334
  let v1342 : BitVec 32 := Scalar.select v1340 v1341 v1335
  let c1_i32_751 : BitVec 32 := 1#32
  let v1344 : BitVec 32 := Scalar.muli v1342 c1_i32_751
  let v1345 : BitVec 32 := Scalar.addi c0_i32_752 v1344
  v1345.toNat
def k0_dev47 (d0 : Dev nD) : Nat :=
  let c0_i32_768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_756 : BitVec 32 := 16#32
  let v1353 : BitVec 32 := Scalar.addi v2 c16_i32_756
  let c32_i32_757 : BitVec 32 := 32#32
  let c0_i32_758 : BitVec 32 := 0#32
  let v1354 : BitVec 1 := Scalar.cmpi .eq c32_i32_757 c0_i32_758
  let c1_i32_759 : BitVec 32 := 1#32
  let v1355 : BitVec 32 := Scalar.select v1354 c1_i32_759 c32_i32_757
  let v1356 : BitVec 32 := Scalar.remsi v1353 v1355
  let c0_i32_761 : BitVec 32 := 0#32
  let v1358 : BitVec 1 := Scalar.cmpi .slt v1356 c0_i32_761
  let c0_i32_762 : BitVec 32 := 0#32
  let v1359 : BitVec 1 := Scalar.cmpi .slt v1355 c0_i32_762
  let v1360 : BitVec 1 := Scalar.xori v1358 v1359
  let c0_i32_760 : BitVec 32 := 0#32
  let v1357 : BitVec 1 := Scalar.cmpi .ne v1356 c0_i32_760
  let v1361 : BitVec 1 := Scalar.andi v1360 v1357
  let v1362 : BitVec 32 := Scalar.addi v1356 v1355
  let v1363 : BitVec 32 := Scalar.select v1361 v1362 v1356
  let c1_i32_767 : BitVec 32 := 1#32
  let v1365 : BitVec 32 := Scalar.muli v1363 c1_i32_767
  let v1366 : BitVec 32 := Scalar.addi c0_i32_768 v1365
  v1366.toNat
def k0_dev48 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_772 : BitVec 32 := 17#32
  let v1374 : BitVec 32 := Scalar.addi v2 c17_i32_772
  let c32_i32_773 : BitVec 32 := 32#32
  let c0_i32_774 : BitVec 32 := 0#32
  let v1375 : BitVec 1 := Scalar.cmpi .eq c32_i32_773 c0_i32_774
  let c1_i32_775 : BitVec 32 := 1#32
  let v1376 : BitVec 32 := Scalar.select v1375 c1_i32_775 c32_i32_773
  let v1377 : BitVec 32 := Scalar.remsi v1374 v1376
  let c0_i32_777 : BitVec 32 := 0#32
  let v1379 : BitVec 1 := Scalar.cmpi .slt v1377 c0_i32_777
  let c0_i32_778 : BitVec 32 := 0#32
  let v1380 : BitVec 1 := Scalar.cmpi .slt v1376 c0_i32_778
  let v1381 : BitVec 1 := Scalar.xori v1379 v1380
  let c0_i32_776 : BitVec 32 := 0#32
  let v1378 : BitVec 1 := Scalar.cmpi .ne v1377 c0_i32_776
  let v1382 : BitVec 1 := Scalar.andi v1381 v1378
  let v1383 : BitVec 32 := Scalar.addi v1377 v1376
  let v1384 : BitVec 32 := Scalar.select v1382 v1383 v1377
  let c1_i32_783 : BitVec 32 := 1#32
  let v1386 : BitVec 32 := Scalar.muli v1384 c1_i32_783
  let v1387 : BitVec 32 := Scalar.addi c0_i32_784 v1386
  v1387.toNat
def k0_dev49 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_788 : BitVec 32 := 18#32
  let v1395 : BitVec 32 := Scalar.addi v2 c18_i32_788
  let c32_i32_789 : BitVec 32 := 32#32
  let c0_i32_790 : BitVec 32 := 0#32
  let v1396 : BitVec 1 := Scalar.cmpi .eq c32_i32_789 c0_i32_790
  let c1_i32_791 : BitVec 32 := 1#32
  let v1397 : BitVec 32 := Scalar.select v1396 c1_i32_791 c32_i32_789
  let v1398 : BitVec 32 := Scalar.remsi v1395 v1397
  let c0_i32_793 : BitVec 32 := 0#32
  let v1400 : BitVec 1 := Scalar.cmpi .slt v1398 c0_i32_793
  let c0_i32_794 : BitVec 32 := 0#32
  let v1401 : BitVec 1 := Scalar.cmpi .slt v1397 c0_i32_794
  let v1402 : BitVec 1 := Scalar.xori v1400 v1401
  let c0_i32_792 : BitVec 32 := 0#32
  let v1399 : BitVec 1 := Scalar.cmpi .ne v1398 c0_i32_792
  let v1403 : BitVec 1 := Scalar.andi v1402 v1399
  let v1404 : BitVec 32 := Scalar.addi v1398 v1397
  let v1405 : BitVec 32 := Scalar.select v1403 v1404 v1398
  let c1_i32_799 : BitVec 32 := 1#32
  let v1407 : BitVec 32 := Scalar.muli v1405 c1_i32_799
  let v1408 : BitVec 32 := Scalar.addi c0_i32_800 v1407
  v1408.toNat
def k0_dev50 (d0 : Dev nD) : Nat :=
  let c0_i32_816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_804 : BitVec 32 := 19#32
  let v1416 : BitVec 32 := Scalar.addi v2 c19_i32_804
  let c32_i32_805 : BitVec 32 := 32#32
  let c0_i32_806 : BitVec 32 := 0#32
  let v1417 : BitVec 1 := Scalar.cmpi .eq c32_i32_805 c0_i32_806
  let c1_i32_807 : BitVec 32 := 1#32
  let v1418 : BitVec 32 := Scalar.select v1417 c1_i32_807 c32_i32_805
  let v1419 : BitVec 32 := Scalar.remsi v1416 v1418
  let c0_i32_809 : BitVec 32 := 0#32
  let v1421 : BitVec 1 := Scalar.cmpi .slt v1419 c0_i32_809
  let c0_i32_810 : BitVec 32 := 0#32
  let v1422 : BitVec 1 := Scalar.cmpi .slt v1418 c0_i32_810
  let v1423 : BitVec 1 := Scalar.xori v1421 v1422
  let c0_i32_808 : BitVec 32 := 0#32
  let v1420 : BitVec 1 := Scalar.cmpi .ne v1419 c0_i32_808
  let v1424 : BitVec 1 := Scalar.andi v1423 v1420
  let v1425 : BitVec 32 := Scalar.addi v1419 v1418
  let v1426 : BitVec 32 := Scalar.select v1424 v1425 v1419
  let c1_i32_815 : BitVec 32 := 1#32
  let v1428 : BitVec 32 := Scalar.muli v1426 c1_i32_815
  let v1429 : BitVec 32 := Scalar.addi c0_i32_816 v1428
  v1429.toNat
def k0_dev51 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_820 : BitVec 32 := 20#32
  let v1437 : BitVec 32 := Scalar.addi v2 c20_i32_820
  let c32_i32_821 : BitVec 32 := 32#32
  let c0_i32_822 : BitVec 32 := 0#32
  let v1438 : BitVec 1 := Scalar.cmpi .eq c32_i32_821 c0_i32_822
  let c1_i32_823 : BitVec 32 := 1#32
  let v1439 : BitVec 32 := Scalar.select v1438 c1_i32_823 c32_i32_821
  let v1440 : BitVec 32 := Scalar.remsi v1437 v1439
  let c0_i32_825 : BitVec 32 := 0#32
  let v1442 : BitVec 1 := Scalar.cmpi .slt v1440 c0_i32_825
  let c0_i32_826 : BitVec 32 := 0#32
  let v1443 : BitVec 1 := Scalar.cmpi .slt v1439 c0_i32_826
  let v1444 : BitVec 1 := Scalar.xori v1442 v1443
  let c0_i32_824 : BitVec 32 := 0#32
  let v1441 : BitVec 1 := Scalar.cmpi .ne v1440 c0_i32_824
  let v1445 : BitVec 1 := Scalar.andi v1444 v1441
  let v1446 : BitVec 32 := Scalar.addi v1440 v1439
  let v1447 : BitVec 32 := Scalar.select v1445 v1446 v1440
  let c1_i32_831 : BitVec 32 := 1#32
  let v1449 : BitVec 32 := Scalar.muli v1447 c1_i32_831
  let v1450 : BitVec 32 := Scalar.addi c0_i32_832 v1449
  v1450.toNat
def k0_dev52 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_836 : BitVec 32 := 21#32
  let v1458 : BitVec 32 := Scalar.addi v2 c21_i32_836
  let c32_i32_837 : BitVec 32 := 32#32
  let c0_i32_838 : BitVec 32 := 0#32
  let v1459 : BitVec 1 := Scalar.cmpi .eq c32_i32_837 c0_i32_838
  let c1_i32_839 : BitVec 32 := 1#32
  let v1460 : BitVec 32 := Scalar.select v1459 c1_i32_839 c32_i32_837
  let v1461 : BitVec 32 := Scalar.remsi v1458 v1460
  let c0_i32_841 : BitVec 32 := 0#32
  let v1463 : BitVec 1 := Scalar.cmpi .slt v1461 c0_i32_841
  let c0_i32_842 : BitVec 32 := 0#32
  let v1464 : BitVec 1 := Scalar.cmpi .slt v1460 c0_i32_842
  let v1465 : BitVec 1 := Scalar.xori v1463 v1464
  let c0_i32_840 : BitVec 32 := 0#32
  let v1462 : BitVec 1 := Scalar.cmpi .ne v1461 c0_i32_840
  let v1466 : BitVec 1 := Scalar.andi v1465 v1462
  let v1467 : BitVec 32 := Scalar.addi v1461 v1460
  let v1468 : BitVec 32 := Scalar.select v1466 v1467 v1461
  let c1_i32_847 : BitVec 32 := 1#32
  let v1470 : BitVec 32 := Scalar.muli v1468 c1_i32_847
  let v1471 : BitVec 32 := Scalar.addi c0_i32_848 v1470
  v1471.toNat
def k0_dev53 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_852 : BitVec 32 := 22#32
  let v1479 : BitVec 32 := Scalar.addi v2 c22_i32_852
  let c32_i32_853 : BitVec 32 := 32#32
  let c0_i32_854 : BitVec 32 := 0#32
  let v1480 : BitVec 1 := Scalar.cmpi .eq c32_i32_853 c0_i32_854
  let c1_i32_855 : BitVec 32 := 1#32
  let v1481 : BitVec 32 := Scalar.select v1480 c1_i32_855 c32_i32_853
  let v1482 : BitVec 32 := Scalar.remsi v1479 v1481
  let c0_i32_857 : BitVec 32 := 0#32
  let v1484 : BitVec 1 := Scalar.cmpi .slt v1482 c0_i32_857
  let c0_i32_858 : BitVec 32 := 0#32
  let v1485 : BitVec 1 := Scalar.cmpi .slt v1481 c0_i32_858
  let v1486 : BitVec 1 := Scalar.xori v1484 v1485
  let c0_i32_856 : BitVec 32 := 0#32
  let v1483 : BitVec 1 := Scalar.cmpi .ne v1482 c0_i32_856
  let v1487 : BitVec 1 := Scalar.andi v1486 v1483
  let v1488 : BitVec 32 := Scalar.addi v1482 v1481
  let v1489 : BitVec 32 := Scalar.select v1487 v1488 v1482
  let c1_i32_863 : BitVec 32 := 1#32
  let v1491 : BitVec 32 := Scalar.muli v1489 c1_i32_863
  let v1492 : BitVec 32 := Scalar.addi c0_i32_864 v1491
  v1492.toNat
def k0_dev54 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_868 : BitVec 32 := 23#32
  let v1500 : BitVec 32 := Scalar.addi v2 c23_i32_868
  let c32_i32_869 : BitVec 32 := 32#32
  let c0_i32_870 : BitVec 32 := 0#32
  let v1501 : BitVec 1 := Scalar.cmpi .eq c32_i32_869 c0_i32_870
  let c1_i32_871 : BitVec 32 := 1#32
  let v1502 : BitVec 32 := Scalar.select v1501 c1_i32_871 c32_i32_869
  let v1503 : BitVec 32 := Scalar.remsi v1500 v1502
  let c0_i32_873 : BitVec 32 := 0#32
  let v1505 : BitVec 1 := Scalar.cmpi .slt v1503 c0_i32_873
  let c0_i32_874 : BitVec 32 := 0#32
  let v1506 : BitVec 1 := Scalar.cmpi .slt v1502 c0_i32_874
  let v1507 : BitVec 1 := Scalar.xori v1505 v1506
  let c0_i32_872 : BitVec 32 := 0#32
  let v1504 : BitVec 1 := Scalar.cmpi .ne v1503 c0_i32_872
  let v1508 : BitVec 1 := Scalar.andi v1507 v1504
  let v1509 : BitVec 32 := Scalar.addi v1503 v1502
  let v1510 : BitVec 32 := Scalar.select v1508 v1509 v1503
  let c1_i32_879 : BitVec 32 := 1#32
  let v1512 : BitVec 32 := Scalar.muli v1510 c1_i32_879
  let v1513 : BitVec 32 := Scalar.addi c0_i32_880 v1512
  v1513.toNat
def k0_dev55 (d0 : Dev nD) : Nat :=
  let c0_i32_896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_884 : BitVec 32 := 24#32
  let v1521 : BitVec 32 := Scalar.addi v2 c24_i32_884
  let c32_i32_885 : BitVec 32 := 32#32
  let c0_i32_886 : BitVec 32 := 0#32
  let v1522 : BitVec 1 := Scalar.cmpi .eq c32_i32_885 c0_i32_886
  let c1_i32_887 : BitVec 32 := 1#32
  let v1523 : BitVec 32 := Scalar.select v1522 c1_i32_887 c32_i32_885
  let v1524 : BitVec 32 := Scalar.remsi v1521 v1523
  let c0_i32_889 : BitVec 32 := 0#32
  let v1526 : BitVec 1 := Scalar.cmpi .slt v1524 c0_i32_889
  let c0_i32_890 : BitVec 32 := 0#32
  let v1527 : BitVec 1 := Scalar.cmpi .slt v1523 c0_i32_890
  let v1528 : BitVec 1 := Scalar.xori v1526 v1527
  let c0_i32_888 : BitVec 32 := 0#32
  let v1525 : BitVec 1 := Scalar.cmpi .ne v1524 c0_i32_888
  let v1529 : BitVec 1 := Scalar.andi v1528 v1525
  let v1530 : BitVec 32 := Scalar.addi v1524 v1523
  let v1531 : BitVec 32 := Scalar.select v1529 v1530 v1524
  let c1_i32_895 : BitVec 32 := 1#32
  let v1533 : BitVec 32 := Scalar.muli v1531 c1_i32_895
  let v1534 : BitVec 32 := Scalar.addi c0_i32_896 v1533
  v1534.toNat
def k0_dev56 (d0 : Dev nD) : Nat :=
  let c0_i32_912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_900 : BitVec 32 := 25#32
  let v1542 : BitVec 32 := Scalar.addi v2 c25_i32_900
  let c32_i32_901 : BitVec 32 := 32#32
  let c0_i32_902 : BitVec 32 := 0#32
  let v1543 : BitVec 1 := Scalar.cmpi .eq c32_i32_901 c0_i32_902
  let c1_i32_903 : BitVec 32 := 1#32
  let v1544 : BitVec 32 := Scalar.select v1543 c1_i32_903 c32_i32_901
  let v1545 : BitVec 32 := Scalar.remsi v1542 v1544
  let c0_i32_905 : BitVec 32 := 0#32
  let v1547 : BitVec 1 := Scalar.cmpi .slt v1545 c0_i32_905
  let c0_i32_906 : BitVec 32 := 0#32
  let v1548 : BitVec 1 := Scalar.cmpi .slt v1544 c0_i32_906
  let v1549 : BitVec 1 := Scalar.xori v1547 v1548
  let c0_i32_904 : BitVec 32 := 0#32
  let v1546 : BitVec 1 := Scalar.cmpi .ne v1545 c0_i32_904
  let v1550 : BitVec 1 := Scalar.andi v1549 v1546
  let v1551 : BitVec 32 := Scalar.addi v1545 v1544
  let v1552 : BitVec 32 := Scalar.select v1550 v1551 v1545
  let c1_i32_911 : BitVec 32 := 1#32
  let v1554 : BitVec 32 := Scalar.muli v1552 c1_i32_911
  let v1555 : BitVec 32 := Scalar.addi c0_i32_912 v1554
  v1555.toNat
def k0_dev57 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_916 : BitVec 32 := 26#32
  let v1563 : BitVec 32 := Scalar.addi v2 c26_i32_916
  let c32_i32_917 : BitVec 32 := 32#32
  let c0_i32_918 : BitVec 32 := 0#32
  let v1564 : BitVec 1 := Scalar.cmpi .eq c32_i32_917 c0_i32_918
  let c1_i32_919 : BitVec 32 := 1#32
  let v1565 : BitVec 32 := Scalar.select v1564 c1_i32_919 c32_i32_917
  let v1566 : BitVec 32 := Scalar.remsi v1563 v1565
  let c0_i32_921 : BitVec 32 := 0#32
  let v1568 : BitVec 1 := Scalar.cmpi .slt v1566 c0_i32_921
  let c0_i32_922 : BitVec 32 := 0#32
  let v1569 : BitVec 1 := Scalar.cmpi .slt v1565 c0_i32_922
  let v1570 : BitVec 1 := Scalar.xori v1568 v1569
  let c0_i32_920 : BitVec 32 := 0#32
  let v1567 : BitVec 1 := Scalar.cmpi .ne v1566 c0_i32_920
  let v1571 : BitVec 1 := Scalar.andi v1570 v1567
  let v1572 : BitVec 32 := Scalar.addi v1566 v1565
  let v1573 : BitVec 32 := Scalar.select v1571 v1572 v1566
  let c1_i32_927 : BitVec 32 := 1#32
  let v1575 : BitVec 32 := Scalar.muli v1573 c1_i32_927
  let v1576 : BitVec 32 := Scalar.addi c0_i32_928 v1575
  v1576.toNat
def k0_dev58 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_932 : BitVec 32 := 27#32
  let v1584 : BitVec 32 := Scalar.addi v2 c27_i32_932
  let c32_i32_933 : BitVec 32 := 32#32
  let c0_i32_934 : BitVec 32 := 0#32
  let v1585 : BitVec 1 := Scalar.cmpi .eq c32_i32_933 c0_i32_934
  let c1_i32_935 : BitVec 32 := 1#32
  let v1586 : BitVec 32 := Scalar.select v1585 c1_i32_935 c32_i32_933
  let v1587 : BitVec 32 := Scalar.remsi v1584 v1586
  let c0_i32_937 : BitVec 32 := 0#32
  let v1589 : BitVec 1 := Scalar.cmpi .slt v1587 c0_i32_937
  let c0_i32_938 : BitVec 32 := 0#32
  let v1590 : BitVec 1 := Scalar.cmpi .slt v1586 c0_i32_938
  let v1591 : BitVec 1 := Scalar.xori v1589 v1590
  let c0_i32_936 : BitVec 32 := 0#32
  let v1588 : BitVec 1 := Scalar.cmpi .ne v1587 c0_i32_936
  let v1592 : BitVec 1 := Scalar.andi v1591 v1588
  let v1593 : BitVec 32 := Scalar.addi v1587 v1586
  let v1594 : BitVec 32 := Scalar.select v1592 v1593 v1587
  let c1_i32_943 : BitVec 32 := 1#32
  let v1596 : BitVec 32 := Scalar.muli v1594 c1_i32_943
  let v1597 : BitVec 32 := Scalar.addi c0_i32_944 v1596
  v1597.toNat
def k0_dev59 (d0 : Dev nD) : Nat :=
  let c0_i32_960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_948 : BitVec 32 := 28#32
  let v1605 : BitVec 32 := Scalar.addi v2 c28_i32_948
  let c32_i32_949 : BitVec 32 := 32#32
  let c0_i32_950 : BitVec 32 := 0#32
  let v1606 : BitVec 1 := Scalar.cmpi .eq c32_i32_949 c0_i32_950
  let c1_i32_951 : BitVec 32 := 1#32
  let v1607 : BitVec 32 := Scalar.select v1606 c1_i32_951 c32_i32_949
  let v1608 : BitVec 32 := Scalar.remsi v1605 v1607
  let c0_i32_953 : BitVec 32 := 0#32
  let v1610 : BitVec 1 := Scalar.cmpi .slt v1608 c0_i32_953
  let c0_i32_954 : BitVec 32 := 0#32
  let v1611 : BitVec 1 := Scalar.cmpi .slt v1607 c0_i32_954
  let v1612 : BitVec 1 := Scalar.xori v1610 v1611
  let c0_i32_952 : BitVec 32 := 0#32
  let v1609 : BitVec 1 := Scalar.cmpi .ne v1608 c0_i32_952
  let v1613 : BitVec 1 := Scalar.andi v1612 v1609
  let v1614 : BitVec 32 := Scalar.addi v1608 v1607
  let v1615 : BitVec 32 := Scalar.select v1613 v1614 v1608
  let c1_i32_959 : BitVec 32 := 1#32
  let v1617 : BitVec 32 := Scalar.muli v1615 c1_i32_959
  let v1618 : BitVec 32 := Scalar.addi c0_i32_960 v1617
  v1618.toNat
def k0_dev60 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_964 : BitVec 32 := 29#32
  let v1626 : BitVec 32 := Scalar.addi v2 c29_i32_964
  let c32_i32_965 : BitVec 32 := 32#32
  let c0_i32_966 : BitVec 32 := 0#32
  let v1627 : BitVec 1 := Scalar.cmpi .eq c32_i32_965 c0_i32_966
  let c1_i32_967 : BitVec 32 := 1#32
  let v1628 : BitVec 32 := Scalar.select v1627 c1_i32_967 c32_i32_965
  let v1629 : BitVec 32 := Scalar.remsi v1626 v1628
  let c0_i32_969 : BitVec 32 := 0#32
  let v1631 : BitVec 1 := Scalar.cmpi .slt v1629 c0_i32_969
  let c0_i32_970 : BitVec 32 := 0#32
  let v1632 : BitVec 1 := Scalar.cmpi .slt v1628 c0_i32_970
  let v1633 : BitVec 1 := Scalar.xori v1631 v1632
  let c0_i32_968 : BitVec 32 := 0#32
  let v1630 : BitVec 1 := Scalar.cmpi .ne v1629 c0_i32_968
  let v1634 : BitVec 1 := Scalar.andi v1633 v1630
  let v1635 : BitVec 32 := Scalar.addi v1629 v1628
  let v1636 : BitVec 32 := Scalar.select v1634 v1635 v1629
  let c1_i32_975 : BitVec 32 := 1#32
  let v1638 : BitVec 32 := Scalar.muli v1636 c1_i32_975
  let v1639 : BitVec 32 := Scalar.addi c0_i32_976 v1638
  v1639.toNat
def k0_dev61 (d0 : Dev nD) : Nat :=
  let c0_i32_992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_980 : BitVec 32 := 30#32
  let v1647 : BitVec 32 := Scalar.addi v2 c30_i32_980
  let c32_i32_981 : BitVec 32 := 32#32
  let c0_i32_982 : BitVec 32 := 0#32
  let v1648 : BitVec 1 := Scalar.cmpi .eq c32_i32_981 c0_i32_982
  let c1_i32_983 : BitVec 32 := 1#32
  let v1649 : BitVec 32 := Scalar.select v1648 c1_i32_983 c32_i32_981
  let v1650 : BitVec 32 := Scalar.remsi v1647 v1649
  let c0_i32_985 : BitVec 32 := 0#32
  let v1652 : BitVec 1 := Scalar.cmpi .slt v1650 c0_i32_985
  let c0_i32_986 : BitVec 32 := 0#32
  let v1653 : BitVec 1 := Scalar.cmpi .slt v1649 c0_i32_986
  let v1654 : BitVec 1 := Scalar.xori v1652 v1653
  let c0_i32_984 : BitVec 32 := 0#32
  let v1651 : BitVec 1 := Scalar.cmpi .ne v1650 c0_i32_984
  let v1655 : BitVec 1 := Scalar.andi v1654 v1651
  let v1656 : BitVec 32 := Scalar.addi v1650 v1649
  let v1657 : BitVec 32 := Scalar.select v1655 v1656 v1650
  let c1_i32_991 : BitVec 32 := 1#32
  let v1659 : BitVec 32 := Scalar.muli v1657 c1_i32_991
  let v1660 : BitVec 32 := Scalar.addi c0_i32_992 v1659
  v1660.toNat
def k0_dev62 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_996 : BitVec 32 := 31#32
  let v1668 : BitVec 32 := Scalar.addi v2 c31_i32_996
  let c32_i32_997 : BitVec 32 := 32#32
  let c0_i32_998 : BitVec 32 := 0#32
  let v1669 : BitVec 1 := Scalar.cmpi .eq c32_i32_997 c0_i32_998
  let c1_i32_999 : BitVec 32 := 1#32
  let v1670 : BitVec 32 := Scalar.select v1669 c1_i32_999 c32_i32_997
  let v1671 : BitVec 32 := Scalar.remsi v1668 v1670
  let c0_i32_1001 : BitVec 32 := 0#32
  let v1673 : BitVec 1 := Scalar.cmpi .slt v1671 c0_i32_1001
  let c0_i32_1002 : BitVec 32 := 0#32
  let v1674 : BitVec 1 := Scalar.cmpi .slt v1670 c0_i32_1002
  let v1675 : BitVec 1 := Scalar.xori v1673 v1674
  let c0_i32_1000 : BitVec 32 := 0#32
  let v1672 : BitVec 1 := Scalar.cmpi .ne v1671 c0_i32_1000
  let v1676 : BitVec 1 := Scalar.andi v1675 v1672
  let v1677 : BitVec 32 := Scalar.addi v1671 v1670
  let v1678 : BitVec 32 := Scalar.select v1676 v1677 v1671
  let c1_i32_1007 : BitVec 32 := 1#32
  let v1680 : BitVec 32 := Scalar.muli v1678 c1_i32_1007
  let v1681 : BitVec 32 := Scalar.addi c0_i32_1008 v1680
  v1681.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1012 : BitVec 32 := 32#32
  let v1689 : BitVec 32 := Scalar.muli v2 c32_i32_1012
  let v1690 : Index := Scalar.indexCast v1689
  let c0_1013 : Index := 0#32
  ![v1690.toNat, 0]
def k0_dev63 (d0 : Dev nD) : Nat :=
  let c0_i32_1340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1329 : BitVec 32 := 1#32
  let v2040 : BitVec 32 := Scalar.addi v2 c1_i32_1329
  let c32_i32_1330 : BitVec 32 := 32#32
  let c0_i32_1331 : BitVec 32 := 0#32
  let v2041 : BitVec 1 := Scalar.cmpi .eq c32_i32_1330 c0_i32_1331
  let c1_i32_1332 : BitVec 32 := 1#32
  let v2042 : BitVec 32 := Scalar.select v2041 c1_i32_1332 c32_i32_1330
  let v2043 : BitVec 32 := Scalar.remsi v2040 v2042
  let c0_i32_1334 : BitVec 32 := 0#32
  let v2045 : BitVec 1 := Scalar.cmpi .slt v2043 c0_i32_1334
  let c0_i32_1335 : BitVec 32 := 0#32
  let v2046 : BitVec 1 := Scalar.cmpi .slt v2042 c0_i32_1335
  let v2047 : BitVec 1 := Scalar.xori v2045 v2046
  let c0_i32_1333 : BitVec 32 := 0#32
  let v2044 : BitVec 1 := Scalar.cmpi .ne v2043 c0_i32_1333
  let v2048 : BitVec 1 := Scalar.andi v2047 v2044
  let v2049 : BitVec 32 := Scalar.addi v2043 v2042
  let v2050 : BitVec 32 := Scalar.select v2048 v2049 v2043
  let c1_i32_1339 : BitVec 32 := 1#32
  let v2051 : BitVec 32 := Scalar.muli v2050 c1_i32_1339
  let v2052 : BitVec 32 := Scalar.addi c0_i32_1340 v2051
  v2052.toNat
def k0_dev64 (d0 : Dev nD) : Nat :=
  let c0_i32_1354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1343 : BitVec 32 := 2#32
  let v2059 : BitVec 32 := Scalar.addi v2 c2_i32_1343
  let c32_i32_1344 : BitVec 32 := 32#32
  let c0_i32_1345 : BitVec 32 := 0#32
  let v2060 : BitVec 1 := Scalar.cmpi .eq c32_i32_1344 c0_i32_1345
  let c1_i32_1346 : BitVec 32 := 1#32
  let v2061 : BitVec 32 := Scalar.select v2060 c1_i32_1346 c32_i32_1344
  let v2062 : BitVec 32 := Scalar.remsi v2059 v2061
  let c0_i32_1348 : BitVec 32 := 0#32
  let v2064 : BitVec 1 := Scalar.cmpi .slt v2062 c0_i32_1348
  let c0_i32_1349 : BitVec 32 := 0#32
  let v2065 : BitVec 1 := Scalar.cmpi .slt v2061 c0_i32_1349
  let v2066 : BitVec 1 := Scalar.xori v2064 v2065
  let c0_i32_1347 : BitVec 32 := 0#32
  let v2063 : BitVec 1 := Scalar.cmpi .ne v2062 c0_i32_1347
  let v2067 : BitVec 1 := Scalar.andi v2066 v2063
  let v2068 : BitVec 32 := Scalar.addi v2062 v2061
  let v2069 : BitVec 32 := Scalar.select v2067 v2068 v2062
  let c1_i32_1353 : BitVec 32 := 1#32
  let v2070 : BitVec 32 := Scalar.muli v2069 c1_i32_1353
  let v2071 : BitVec 32 := Scalar.addi c0_i32_1354 v2070
  v2071.toNat
def k0_dev65 (d0 : Dev nD) : Nat :=
  let c0_i32_1368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1357 : BitVec 32 := 3#32
  let v2078 : BitVec 32 := Scalar.addi v2 c3_i32_1357
  let c32_i32_1358 : BitVec 32 := 32#32
  let c0_i32_1359 : BitVec 32 := 0#32
  let v2079 : BitVec 1 := Scalar.cmpi .eq c32_i32_1358 c0_i32_1359
  let c1_i32_1360 : BitVec 32 := 1#32
  let v2080 : BitVec 32 := Scalar.select v2079 c1_i32_1360 c32_i32_1358
  let v2081 : BitVec 32 := Scalar.remsi v2078 v2080
  let c0_i32_1362 : BitVec 32 := 0#32
  let v2083 : BitVec 1 := Scalar.cmpi .slt v2081 c0_i32_1362
  let c0_i32_1363 : BitVec 32 := 0#32
  let v2084 : BitVec 1 := Scalar.cmpi .slt v2080 c0_i32_1363
  let v2085 : BitVec 1 := Scalar.xori v2083 v2084
  let c0_i32_1361 : BitVec 32 := 0#32
  let v2082 : BitVec 1 := Scalar.cmpi .ne v2081 c0_i32_1361
  let v2086 : BitVec 1 := Scalar.andi v2085 v2082
  let v2087 : BitVec 32 := Scalar.addi v2081 v2080
  let v2088 : BitVec 32 := Scalar.select v2086 v2087 v2081
  let c1_i32_1367 : BitVec 32 := 1#32
  let v2089 : BitVec 32 := Scalar.muli v2088 c1_i32_1367
  let v2090 : BitVec 32 := Scalar.addi c0_i32_1368 v2089
  v2090.toNat
def k0_dev66 (d0 : Dev nD) : Nat :=
  let c0_i32_1382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1371 : BitVec 32 := 4#32
  let v2097 : BitVec 32 := Scalar.addi v2 c4_i32_1371
  let c32_i32_1372 : BitVec 32 := 32#32
  let c0_i32_1373 : BitVec 32 := 0#32
  let v2098 : BitVec 1 := Scalar.cmpi .eq c32_i32_1372 c0_i32_1373
  let c1_i32_1374 : BitVec 32 := 1#32
  let v2099 : BitVec 32 := Scalar.select v2098 c1_i32_1374 c32_i32_1372
  let v2100 : BitVec 32 := Scalar.remsi v2097 v2099
  let c0_i32_1376 : BitVec 32 := 0#32
  let v2102 : BitVec 1 := Scalar.cmpi .slt v2100 c0_i32_1376
  let c0_i32_1377 : BitVec 32 := 0#32
  let v2103 : BitVec 1 := Scalar.cmpi .slt v2099 c0_i32_1377
  let v2104 : BitVec 1 := Scalar.xori v2102 v2103
  let c0_i32_1375 : BitVec 32 := 0#32
  let v2101 : BitVec 1 := Scalar.cmpi .ne v2100 c0_i32_1375
  let v2105 : BitVec 1 := Scalar.andi v2104 v2101
  let v2106 : BitVec 32 := Scalar.addi v2100 v2099
  let v2107 : BitVec 32 := Scalar.select v2105 v2106 v2100
  let c1_i32_1381 : BitVec 32 := 1#32
  let v2108 : BitVec 32 := Scalar.muli v2107 c1_i32_1381
  let v2109 : BitVec 32 := Scalar.addi c0_i32_1382 v2108
  v2109.toNat
def k0_dev67 (d0 : Dev nD) : Nat :=
  let c0_i32_1396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1385 : BitVec 32 := 5#32
  let v2116 : BitVec 32 := Scalar.addi v2 c5_i32_1385
  let c32_i32_1386 : BitVec 32 := 32#32
  let c0_i32_1387 : BitVec 32 := 0#32
  let v2117 : BitVec 1 := Scalar.cmpi .eq c32_i32_1386 c0_i32_1387
  let c1_i32_1388 : BitVec 32 := 1#32
  let v2118 : BitVec 32 := Scalar.select v2117 c1_i32_1388 c32_i32_1386
  let v2119 : BitVec 32 := Scalar.remsi v2116 v2118
  let c0_i32_1390 : BitVec 32 := 0#32
  let v2121 : BitVec 1 := Scalar.cmpi .slt v2119 c0_i32_1390
  let c0_i32_1391 : BitVec 32 := 0#32
  let v2122 : BitVec 1 := Scalar.cmpi .slt v2118 c0_i32_1391
  let v2123 : BitVec 1 := Scalar.xori v2121 v2122
  let c0_i32_1389 : BitVec 32 := 0#32
  let v2120 : BitVec 1 := Scalar.cmpi .ne v2119 c0_i32_1389
  let v2124 : BitVec 1 := Scalar.andi v2123 v2120
  let v2125 : BitVec 32 := Scalar.addi v2119 v2118
  let v2126 : BitVec 32 := Scalar.select v2124 v2125 v2119
  let c1_i32_1395 : BitVec 32 := 1#32
  let v2127 : BitVec 32 := Scalar.muli v2126 c1_i32_1395
  let v2128 : BitVec 32 := Scalar.addi c0_i32_1396 v2127
  v2128.toNat
def k0_dev68 (d0 : Dev nD) : Nat :=
  let c0_i32_1410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1399 : BitVec 32 := 6#32
  let v2135 : BitVec 32 := Scalar.addi v2 c6_i32_1399
  let c32_i32_1400 : BitVec 32 := 32#32
  let c0_i32_1401 : BitVec 32 := 0#32
  let v2136 : BitVec 1 := Scalar.cmpi .eq c32_i32_1400 c0_i32_1401
  let c1_i32_1402 : BitVec 32 := 1#32
  let v2137 : BitVec 32 := Scalar.select v2136 c1_i32_1402 c32_i32_1400
  let v2138 : BitVec 32 := Scalar.remsi v2135 v2137
  let c0_i32_1404 : BitVec 32 := 0#32
  let v2140 : BitVec 1 := Scalar.cmpi .slt v2138 c0_i32_1404
  let c0_i32_1405 : BitVec 32 := 0#32
  let v2141 : BitVec 1 := Scalar.cmpi .slt v2137 c0_i32_1405
  let v2142 : BitVec 1 := Scalar.xori v2140 v2141
  let c0_i32_1403 : BitVec 32 := 0#32
  let v2139 : BitVec 1 := Scalar.cmpi .ne v2138 c0_i32_1403
  let v2143 : BitVec 1 := Scalar.andi v2142 v2139
  let v2144 : BitVec 32 := Scalar.addi v2138 v2137
  let v2145 : BitVec 32 := Scalar.select v2143 v2144 v2138
  let c1_i32_1409 : BitVec 32 := 1#32
  let v2146 : BitVec 32 := Scalar.muli v2145 c1_i32_1409
  let v2147 : BitVec 32 := Scalar.addi c0_i32_1410 v2146
  v2147.toNat
def k0_dev69 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1413 : BitVec 32 := 7#32
  let v2154 : BitVec 32 := Scalar.addi v2 c7_i32_1413
  let c32_i32_1414 : BitVec 32 := 32#32
  let c0_i32_1415 : BitVec 32 := 0#32
  let v2155 : BitVec 1 := Scalar.cmpi .eq c32_i32_1414 c0_i32_1415
  let c1_i32_1416 : BitVec 32 := 1#32
  let v2156 : BitVec 32 := Scalar.select v2155 c1_i32_1416 c32_i32_1414
  let v2157 : BitVec 32 := Scalar.remsi v2154 v2156
  let c0_i32_1418 : BitVec 32 := 0#32
  let v2159 : BitVec 1 := Scalar.cmpi .slt v2157 c0_i32_1418
  let c0_i32_1419 : BitVec 32 := 0#32
  let v2160 : BitVec 1 := Scalar.cmpi .slt v2156 c0_i32_1419
  let v2161 : BitVec 1 := Scalar.xori v2159 v2160
  let c0_i32_1417 : BitVec 32 := 0#32
  let v2158 : BitVec 1 := Scalar.cmpi .ne v2157 c0_i32_1417
  let v2162 : BitVec 1 := Scalar.andi v2161 v2158
  let v2163 : BitVec 32 := Scalar.addi v2157 v2156
  let v2164 : BitVec 32 := Scalar.select v2162 v2163 v2157
  let c1_i32_1423 : BitVec 32 := 1#32
  let v2165 : BitVec 32 := Scalar.muli v2164 c1_i32_1423
  let v2166 : BitVec 32 := Scalar.addi c0_i32_1424 v2165
  v2166.toNat
def k0_dev70 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1427 : BitVec 32 := 8#32
  let v2173 : BitVec 32 := Scalar.addi v2 c8_i32_1427
  let c32_i32_1428 : BitVec 32 := 32#32
  let c0_i32_1429 : BitVec 32 := 0#32
  let v2174 : BitVec 1 := Scalar.cmpi .eq c32_i32_1428 c0_i32_1429
  let c1_i32_1430 : BitVec 32 := 1#32
  let v2175 : BitVec 32 := Scalar.select v2174 c1_i32_1430 c32_i32_1428
  let v2176 : BitVec 32 := Scalar.remsi v2173 v2175
  let c0_i32_1432 : BitVec 32 := 0#32
  let v2178 : BitVec 1 := Scalar.cmpi .slt v2176 c0_i32_1432
  let c0_i32_1433 : BitVec 32 := 0#32
  let v2179 : BitVec 1 := Scalar.cmpi .slt v2175 c0_i32_1433
  let v2180 : BitVec 1 := Scalar.xori v2178 v2179
  let c0_i32_1431 : BitVec 32 := 0#32
  let v2177 : BitVec 1 := Scalar.cmpi .ne v2176 c0_i32_1431
  let v2181 : BitVec 1 := Scalar.andi v2180 v2177
  let v2182 : BitVec 32 := Scalar.addi v2176 v2175
  let v2183 : BitVec 32 := Scalar.select v2181 v2182 v2176
  let c1_i32_1437 : BitVec 32 := 1#32
  let v2184 : BitVec 32 := Scalar.muli v2183 c1_i32_1437
  let v2185 : BitVec 32 := Scalar.addi c0_i32_1438 v2184
  v2185.toNat
def k0_dev71 (d0 : Dev nD) : Nat :=
  let c0_i32_1452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1441 : BitVec 32 := 9#32
  let v2192 : BitVec 32 := Scalar.addi v2 c9_i32_1441
  let c32_i32_1442 : BitVec 32 := 32#32
  let c0_i32_1443 : BitVec 32 := 0#32
  let v2193 : BitVec 1 := Scalar.cmpi .eq c32_i32_1442 c0_i32_1443
  let c1_i32_1444 : BitVec 32 := 1#32
  let v2194 : BitVec 32 := Scalar.select v2193 c1_i32_1444 c32_i32_1442
  let v2195 : BitVec 32 := Scalar.remsi v2192 v2194
  let c0_i32_1446 : BitVec 32 := 0#32
  let v2197 : BitVec 1 := Scalar.cmpi .slt v2195 c0_i32_1446
  let c0_i32_1447 : BitVec 32 := 0#32
  let v2198 : BitVec 1 := Scalar.cmpi .slt v2194 c0_i32_1447
  let v2199 : BitVec 1 := Scalar.xori v2197 v2198
  let c0_i32_1445 : BitVec 32 := 0#32
  let v2196 : BitVec 1 := Scalar.cmpi .ne v2195 c0_i32_1445
  let v2200 : BitVec 1 := Scalar.andi v2199 v2196
  let v2201 : BitVec 32 := Scalar.addi v2195 v2194
  let v2202 : BitVec 32 := Scalar.select v2200 v2201 v2195
  let c1_i32_1451 : BitVec 32 := 1#32
  let v2203 : BitVec 32 := Scalar.muli v2202 c1_i32_1451
  let v2204 : BitVec 32 := Scalar.addi c0_i32_1452 v2203
  v2204.toNat
def k0_dev72 (d0 : Dev nD) : Nat :=
  let c0_i32_1466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1455 : BitVec 32 := 10#32
  let v2211 : BitVec 32 := Scalar.addi v2 c10_i32_1455
  let c32_i32_1456 : BitVec 32 := 32#32
  let c0_i32_1457 : BitVec 32 := 0#32
  let v2212 : BitVec 1 := Scalar.cmpi .eq c32_i32_1456 c0_i32_1457
  let c1_i32_1458 : BitVec 32 := 1#32
  let v2213 : BitVec 32 := Scalar.select v2212 c1_i32_1458 c32_i32_1456
  let v2214 : BitVec 32 := Scalar.remsi v2211 v2213
  let c0_i32_1460 : BitVec 32 := 0#32
  let v2216 : BitVec 1 := Scalar.cmpi .slt v2214 c0_i32_1460
  let c0_i32_1461 : BitVec 32 := 0#32
  let v2217 : BitVec 1 := Scalar.cmpi .slt v2213 c0_i32_1461
  let v2218 : BitVec 1 := Scalar.xori v2216 v2217
  let c0_i32_1459 : BitVec 32 := 0#32
  let v2215 : BitVec 1 := Scalar.cmpi .ne v2214 c0_i32_1459
  let v2219 : BitVec 1 := Scalar.andi v2218 v2215
  let v2220 : BitVec 32 := Scalar.addi v2214 v2213
  let v2221 : BitVec 32 := Scalar.select v2219 v2220 v2214
  let c1_i32_1465 : BitVec 32 := 1#32
  let v2222 : BitVec 32 := Scalar.muli v2221 c1_i32_1465
  let v2223 : BitVec 32 := Scalar.addi c0_i32_1466 v2222
  v2223.toNat
def k0_dev73 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1469 : BitVec 32 := 11#32
  let v2230 : BitVec 32 := Scalar.addi v2 c11_i32_1469
  let c32_i32_1470 : BitVec 32 := 32#32
  let c0_i32_1471 : BitVec 32 := 0#32
  let v2231 : BitVec 1 := Scalar.cmpi .eq c32_i32_1470 c0_i32_1471
  let c1_i32_1472 : BitVec 32 := 1#32
  let v2232 : BitVec 32 := Scalar.select v2231 c1_i32_1472 c32_i32_1470
  let v2233 : BitVec 32 := Scalar.remsi v2230 v2232
  let c0_i32_1474 : BitVec 32 := 0#32
  let v2235 : BitVec 1 := Scalar.cmpi .slt v2233 c0_i32_1474
  let c0_i32_1475 : BitVec 32 := 0#32
  let v2236 : BitVec 1 := Scalar.cmpi .slt v2232 c0_i32_1475
  let v2237 : BitVec 1 := Scalar.xori v2235 v2236
  let c0_i32_1473 : BitVec 32 := 0#32
  let v2234 : BitVec 1 := Scalar.cmpi .ne v2233 c0_i32_1473
  let v2238 : BitVec 1 := Scalar.andi v2237 v2234
  let v2239 : BitVec 32 := Scalar.addi v2233 v2232
  let v2240 : BitVec 32 := Scalar.select v2238 v2239 v2233
  let c1_i32_1479 : BitVec 32 := 1#32
  let v2241 : BitVec 32 := Scalar.muli v2240 c1_i32_1479
  let v2242 : BitVec 32 := Scalar.addi c0_i32_1480 v2241
  v2242.toNat
def k0_dev74 (d0 : Dev nD) : Nat :=
  let c0_i32_1494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1483 : BitVec 32 := 12#32
  let v2249 : BitVec 32 := Scalar.addi v2 c12_i32_1483
  let c32_i32_1484 : BitVec 32 := 32#32
  let c0_i32_1485 : BitVec 32 := 0#32
  let v2250 : BitVec 1 := Scalar.cmpi .eq c32_i32_1484 c0_i32_1485
  let c1_i32_1486 : BitVec 32 := 1#32
  let v2251 : BitVec 32 := Scalar.select v2250 c1_i32_1486 c32_i32_1484
  let v2252 : BitVec 32 := Scalar.remsi v2249 v2251
  let c0_i32_1488 : BitVec 32 := 0#32
  let v2254 : BitVec 1 := Scalar.cmpi .slt v2252 c0_i32_1488
  let c0_i32_1489 : BitVec 32 := 0#32
  let v2255 : BitVec 1 := Scalar.cmpi .slt v2251 c0_i32_1489
  let v2256 : BitVec 1 := Scalar.xori v2254 v2255
  let c0_i32_1487 : BitVec 32 := 0#32
  let v2253 : BitVec 1 := Scalar.cmpi .ne v2252 c0_i32_1487
  let v2257 : BitVec 1 := Scalar.andi v2256 v2253
  let v2258 : BitVec 32 := Scalar.addi v2252 v2251
  let v2259 : BitVec 32 := Scalar.select v2257 v2258 v2252
  let c1_i32_1493 : BitVec 32 := 1#32
  let v2260 : BitVec 32 := Scalar.muli v2259 c1_i32_1493
  let v2261 : BitVec 32 := Scalar.addi c0_i32_1494 v2260
  v2261.toNat
def k0_dev75 (d0 : Dev nD) : Nat :=
  let c0_i32_1508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1497 : BitVec 32 := 13#32
  let v2268 : BitVec 32 := Scalar.addi v2 c13_i32_1497
  let c32_i32_1498 : BitVec 32 := 32#32
  let c0_i32_1499 : BitVec 32 := 0#32
  let v2269 : BitVec 1 := Scalar.cmpi .eq c32_i32_1498 c0_i32_1499
  let c1_i32_1500 : BitVec 32 := 1#32
  let v2270 : BitVec 32 := Scalar.select v2269 c1_i32_1500 c32_i32_1498
  let v2271 : BitVec 32 := Scalar.remsi v2268 v2270
  let c0_i32_1502 : BitVec 32 := 0#32
  let v2273 : BitVec 1 := Scalar.cmpi .slt v2271 c0_i32_1502
  let c0_i32_1503 : BitVec 32 := 0#32
  let v2274 : BitVec 1 := Scalar.cmpi .slt v2270 c0_i32_1503
  let v2275 : BitVec 1 := Scalar.xori v2273 v2274
  let c0_i32_1501 : BitVec 32 := 0#32
  let v2272 : BitVec 1 := Scalar.cmpi .ne v2271 c0_i32_1501
  let v2276 : BitVec 1 := Scalar.andi v2275 v2272
  let v2277 : BitVec 32 := Scalar.addi v2271 v2270
  let v2278 : BitVec 32 := Scalar.select v2276 v2277 v2271
  let c1_i32_1507 : BitVec 32 := 1#32
  let v2279 : BitVec 32 := Scalar.muli v2278 c1_i32_1507
  let v2280 : BitVec 32 := Scalar.addi c0_i32_1508 v2279
  v2280.toNat
def k0_dev76 (d0 : Dev nD) : Nat :=
  let c0_i32_1522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1511 : BitVec 32 := 14#32
  let v2287 : BitVec 32 := Scalar.addi v2 c14_i32_1511
  let c32_i32_1512 : BitVec 32 := 32#32
  let c0_i32_1513 : BitVec 32 := 0#32
  let v2288 : BitVec 1 := Scalar.cmpi .eq c32_i32_1512 c0_i32_1513
  let c1_i32_1514 : BitVec 32 := 1#32
  let v2289 : BitVec 32 := Scalar.select v2288 c1_i32_1514 c32_i32_1512
  let v2290 : BitVec 32 := Scalar.remsi v2287 v2289
  let c0_i32_1516 : BitVec 32 := 0#32
  let v2292 : BitVec 1 := Scalar.cmpi .slt v2290 c0_i32_1516
  let c0_i32_1517 : BitVec 32 := 0#32
  let v2293 : BitVec 1 := Scalar.cmpi .slt v2289 c0_i32_1517
  let v2294 : BitVec 1 := Scalar.xori v2292 v2293
  let c0_i32_1515 : BitVec 32 := 0#32
  let v2291 : BitVec 1 := Scalar.cmpi .ne v2290 c0_i32_1515
  let v2295 : BitVec 1 := Scalar.andi v2294 v2291
  let v2296 : BitVec 32 := Scalar.addi v2290 v2289
  let v2297 : BitVec 32 := Scalar.select v2295 v2296 v2290
  let c1_i32_1521 : BitVec 32 := 1#32
  let v2298 : BitVec 32 := Scalar.muli v2297 c1_i32_1521
  let v2299 : BitVec 32 := Scalar.addi c0_i32_1522 v2298
  v2299.toNat
def k0_dev77 (d0 : Dev nD) : Nat :=
  let c0_i32_1536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1525 : BitVec 32 := 15#32
  let v2306 : BitVec 32 := Scalar.addi v2 c15_i32_1525
  let c32_i32_1526 : BitVec 32 := 32#32
  let c0_i32_1527 : BitVec 32 := 0#32
  let v2307 : BitVec 1 := Scalar.cmpi .eq c32_i32_1526 c0_i32_1527
  let c1_i32_1528 : BitVec 32 := 1#32
  let v2308 : BitVec 32 := Scalar.select v2307 c1_i32_1528 c32_i32_1526
  let v2309 : BitVec 32 := Scalar.remsi v2306 v2308
  let c0_i32_1530 : BitVec 32 := 0#32
  let v2311 : BitVec 1 := Scalar.cmpi .slt v2309 c0_i32_1530
  let c0_i32_1531 : BitVec 32 := 0#32
  let v2312 : BitVec 1 := Scalar.cmpi .slt v2308 c0_i32_1531
  let v2313 : BitVec 1 := Scalar.xori v2311 v2312
  let c0_i32_1529 : BitVec 32 := 0#32
  let v2310 : BitVec 1 := Scalar.cmpi .ne v2309 c0_i32_1529
  let v2314 : BitVec 1 := Scalar.andi v2313 v2310
  let v2315 : BitVec 32 := Scalar.addi v2309 v2308
  let v2316 : BitVec 32 := Scalar.select v2314 v2315 v2309
  let c1_i32_1535 : BitVec 32 := 1#32
  let v2317 : BitVec 32 := Scalar.muli v2316 c1_i32_1535
  let v2318 : BitVec 32 := Scalar.addi c0_i32_1536 v2317
  v2318.toNat
def k0_dev78 (d0 : Dev nD) : Nat :=
  let c0_i32_1550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1539 : BitVec 32 := 16#32
  let v2325 : BitVec 32 := Scalar.addi v2 c16_i32_1539
  let c32_i32_1540 : BitVec 32 := 32#32
  let c0_i32_1541 : BitVec 32 := 0#32
  let v2326 : BitVec 1 := Scalar.cmpi .eq c32_i32_1540 c0_i32_1541
  let c1_i32_1542 : BitVec 32 := 1#32
  let v2327 : BitVec 32 := Scalar.select v2326 c1_i32_1542 c32_i32_1540
  let v2328 : BitVec 32 := Scalar.remsi v2325 v2327
  let c0_i32_1544 : BitVec 32 := 0#32
  let v2330 : BitVec 1 := Scalar.cmpi .slt v2328 c0_i32_1544
  let c0_i32_1545 : BitVec 32 := 0#32
  let v2331 : BitVec 1 := Scalar.cmpi .slt v2327 c0_i32_1545
  let v2332 : BitVec 1 := Scalar.xori v2330 v2331
  let c0_i32_1543 : BitVec 32 := 0#32
  let v2329 : BitVec 1 := Scalar.cmpi .ne v2328 c0_i32_1543
  let v2333 : BitVec 1 := Scalar.andi v2332 v2329
  let v2334 : BitVec 32 := Scalar.addi v2328 v2327
  let v2335 : BitVec 32 := Scalar.select v2333 v2334 v2328
  let c1_i32_1549 : BitVec 32 := 1#32
  let v2336 : BitVec 32 := Scalar.muli v2335 c1_i32_1549
  let v2337 : BitVec 32 := Scalar.addi c0_i32_1550 v2336
  v2337.toNat
def k0_dev79 (d0 : Dev nD) : Nat :=
  let c0_i32_1564 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1553 : BitVec 32 := 17#32
  let v2344 : BitVec 32 := Scalar.addi v2 c17_i32_1553
  let c32_i32_1554 : BitVec 32 := 32#32
  let c0_i32_1555 : BitVec 32 := 0#32
  let v2345 : BitVec 1 := Scalar.cmpi .eq c32_i32_1554 c0_i32_1555
  let c1_i32_1556 : BitVec 32 := 1#32
  let v2346 : BitVec 32 := Scalar.select v2345 c1_i32_1556 c32_i32_1554
  let v2347 : BitVec 32 := Scalar.remsi v2344 v2346
  let c0_i32_1558 : BitVec 32 := 0#32
  let v2349 : BitVec 1 := Scalar.cmpi .slt v2347 c0_i32_1558
  let c0_i32_1559 : BitVec 32 := 0#32
  let v2350 : BitVec 1 := Scalar.cmpi .slt v2346 c0_i32_1559
  let v2351 : BitVec 1 := Scalar.xori v2349 v2350
  let c0_i32_1557 : BitVec 32 := 0#32
  let v2348 : BitVec 1 := Scalar.cmpi .ne v2347 c0_i32_1557
  let v2352 : BitVec 1 := Scalar.andi v2351 v2348
  let v2353 : BitVec 32 := Scalar.addi v2347 v2346
  let v2354 : BitVec 32 := Scalar.select v2352 v2353 v2347
  let c1_i32_1563 : BitVec 32 := 1#32
  let v2355 : BitVec 32 := Scalar.muli v2354 c1_i32_1563
  let v2356 : BitVec 32 := Scalar.addi c0_i32_1564 v2355
  v2356.toNat
def k0_dev80 (d0 : Dev nD) : Nat :=
  let c0_i32_1578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1567 : BitVec 32 := 18#32
  let v2363 : BitVec 32 := Scalar.addi v2 c18_i32_1567
  let c32_i32_1568 : BitVec 32 := 32#32
  let c0_i32_1569 : BitVec 32 := 0#32
  let v2364 : BitVec 1 := Scalar.cmpi .eq c32_i32_1568 c0_i32_1569
  let c1_i32_1570 : BitVec 32 := 1#32
  let v2365 : BitVec 32 := Scalar.select v2364 c1_i32_1570 c32_i32_1568
  let v2366 : BitVec 32 := Scalar.remsi v2363 v2365
  let c0_i32_1572 : BitVec 32 := 0#32
  let v2368 : BitVec 1 := Scalar.cmpi .slt v2366 c0_i32_1572
  let c0_i32_1573 : BitVec 32 := 0#32
  let v2369 : BitVec 1 := Scalar.cmpi .slt v2365 c0_i32_1573
  let v2370 : BitVec 1 := Scalar.xori v2368 v2369
  let c0_i32_1571 : BitVec 32 := 0#32
  let v2367 : BitVec 1 := Scalar.cmpi .ne v2366 c0_i32_1571
  let v2371 : BitVec 1 := Scalar.andi v2370 v2367
  let v2372 : BitVec 32 := Scalar.addi v2366 v2365
  let v2373 : BitVec 32 := Scalar.select v2371 v2372 v2366
  let c1_i32_1577 : BitVec 32 := 1#32
  let v2374 : BitVec 32 := Scalar.muli v2373 c1_i32_1577
  let v2375 : BitVec 32 := Scalar.addi c0_i32_1578 v2374
  v2375.toNat
def k0_dev81 (d0 : Dev nD) : Nat :=
  let c0_i32_1592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1581 : BitVec 32 := 19#32
  let v2382 : BitVec 32 := Scalar.addi v2 c19_i32_1581
  let c32_i32_1582 : BitVec 32 := 32#32
  let c0_i32_1583 : BitVec 32 := 0#32
  let v2383 : BitVec 1 := Scalar.cmpi .eq c32_i32_1582 c0_i32_1583
  let c1_i32_1584 : BitVec 32 := 1#32
  let v2384 : BitVec 32 := Scalar.select v2383 c1_i32_1584 c32_i32_1582
  let v2385 : BitVec 32 := Scalar.remsi v2382 v2384
  let c0_i32_1586 : BitVec 32 := 0#32
  let v2387 : BitVec 1 := Scalar.cmpi .slt v2385 c0_i32_1586
  let c0_i32_1587 : BitVec 32 := 0#32
  let v2388 : BitVec 1 := Scalar.cmpi .slt v2384 c0_i32_1587
  let v2389 : BitVec 1 := Scalar.xori v2387 v2388
  let c0_i32_1585 : BitVec 32 := 0#32
  let v2386 : BitVec 1 := Scalar.cmpi .ne v2385 c0_i32_1585
  let v2390 : BitVec 1 := Scalar.andi v2389 v2386
  let v2391 : BitVec 32 := Scalar.addi v2385 v2384
  let v2392 : BitVec 32 := Scalar.select v2390 v2391 v2385
  let c1_i32_1591 : BitVec 32 := 1#32
  let v2393 : BitVec 32 := Scalar.muli v2392 c1_i32_1591
  let v2394 : BitVec 32 := Scalar.addi c0_i32_1592 v2393
  v2394.toNat
def k0_dev82 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1595 : BitVec 32 := 20#32
  let v2401 : BitVec 32 := Scalar.addi v2 c20_i32_1595
  let c32_i32_1596 : BitVec 32 := 32#32
  let c0_i32_1597 : BitVec 32 := 0#32
  let v2402 : BitVec 1 := Scalar.cmpi .eq c32_i32_1596 c0_i32_1597
  let c1_i32_1598 : BitVec 32 := 1#32
  let v2403 : BitVec 32 := Scalar.select v2402 c1_i32_1598 c32_i32_1596
  let v2404 : BitVec 32 := Scalar.remsi v2401 v2403
  let c0_i32_1600 : BitVec 32 := 0#32
  let v2406 : BitVec 1 := Scalar.cmpi .slt v2404 c0_i32_1600
  let c0_i32_1601 : BitVec 32 := 0#32
  let v2407 : BitVec 1 := Scalar.cmpi .slt v2403 c0_i32_1601
  let v2408 : BitVec 1 := Scalar.xori v2406 v2407
  let c0_i32_1599 : BitVec 32 := 0#32
  let v2405 : BitVec 1 := Scalar.cmpi .ne v2404 c0_i32_1599
  let v2409 : BitVec 1 := Scalar.andi v2408 v2405
  let v2410 : BitVec 32 := Scalar.addi v2404 v2403
  let v2411 : BitVec 32 := Scalar.select v2409 v2410 v2404
  let c1_i32_1605 : BitVec 32 := 1#32
  let v2412 : BitVec 32 := Scalar.muli v2411 c1_i32_1605
  let v2413 : BitVec 32 := Scalar.addi c0_i32_1606 v2412
  v2413.toNat
def k0_dev83 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1609 : BitVec 32 := 21#32
  let v2420 : BitVec 32 := Scalar.addi v2 c21_i32_1609
  let c32_i32_1610 : BitVec 32 := 32#32
  let c0_i32_1611 : BitVec 32 := 0#32
  let v2421 : BitVec 1 := Scalar.cmpi .eq c32_i32_1610 c0_i32_1611
  let c1_i32_1612 : BitVec 32 := 1#32
  let v2422 : BitVec 32 := Scalar.select v2421 c1_i32_1612 c32_i32_1610
  let v2423 : BitVec 32 := Scalar.remsi v2420 v2422
  let c0_i32_1614 : BitVec 32 := 0#32
  let v2425 : BitVec 1 := Scalar.cmpi .slt v2423 c0_i32_1614
  let c0_i32_1615 : BitVec 32 := 0#32
  let v2426 : BitVec 1 := Scalar.cmpi .slt v2422 c0_i32_1615
  let v2427 : BitVec 1 := Scalar.xori v2425 v2426
  let c0_i32_1613 : BitVec 32 := 0#32
  let v2424 : BitVec 1 := Scalar.cmpi .ne v2423 c0_i32_1613
  let v2428 : BitVec 1 := Scalar.andi v2427 v2424
  let v2429 : BitVec 32 := Scalar.addi v2423 v2422
  let v2430 : BitVec 32 := Scalar.select v2428 v2429 v2423
  let c1_i32_1619 : BitVec 32 := 1#32
  let v2431 : BitVec 32 := Scalar.muli v2430 c1_i32_1619
  let v2432 : BitVec 32 := Scalar.addi c0_i32_1620 v2431
  v2432.toNat
def k0_dev84 (d0 : Dev nD) : Nat :=
  let c0_i32_1634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1623 : BitVec 32 := 22#32
  let v2439 : BitVec 32 := Scalar.addi v2 c22_i32_1623
  let c32_i32_1624 : BitVec 32 := 32#32
  let c0_i32_1625 : BitVec 32 := 0#32
  let v2440 : BitVec 1 := Scalar.cmpi .eq c32_i32_1624 c0_i32_1625
  let c1_i32_1626 : BitVec 32 := 1#32
  let v2441 : BitVec 32 := Scalar.select v2440 c1_i32_1626 c32_i32_1624
  let v2442 : BitVec 32 := Scalar.remsi v2439 v2441
  let c0_i32_1628 : BitVec 32 := 0#32
  let v2444 : BitVec 1 := Scalar.cmpi .slt v2442 c0_i32_1628
  let c0_i32_1629 : BitVec 32 := 0#32
  let v2445 : BitVec 1 := Scalar.cmpi .slt v2441 c0_i32_1629
  let v2446 : BitVec 1 := Scalar.xori v2444 v2445
  let c0_i32_1627 : BitVec 32 := 0#32
  let v2443 : BitVec 1 := Scalar.cmpi .ne v2442 c0_i32_1627
  let v2447 : BitVec 1 := Scalar.andi v2446 v2443
  let v2448 : BitVec 32 := Scalar.addi v2442 v2441
  let v2449 : BitVec 32 := Scalar.select v2447 v2448 v2442
  let c1_i32_1633 : BitVec 32 := 1#32
  let v2450 : BitVec 32 := Scalar.muli v2449 c1_i32_1633
  let v2451 : BitVec 32 := Scalar.addi c0_i32_1634 v2450
  v2451.toNat
def k0_dev85 (d0 : Dev nD) : Nat :=
  let c0_i32_1648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1637 : BitVec 32 := 23#32
  let v2458 : BitVec 32 := Scalar.addi v2 c23_i32_1637
  let c32_i32_1638 : BitVec 32 := 32#32
  let c0_i32_1639 : BitVec 32 := 0#32
  let v2459 : BitVec 1 := Scalar.cmpi .eq c32_i32_1638 c0_i32_1639
  let c1_i32_1640 : BitVec 32 := 1#32
  let v2460 : BitVec 32 := Scalar.select v2459 c1_i32_1640 c32_i32_1638
  let v2461 : BitVec 32 := Scalar.remsi v2458 v2460
  let c0_i32_1642 : BitVec 32 := 0#32
  let v2463 : BitVec 1 := Scalar.cmpi .slt v2461 c0_i32_1642
  let c0_i32_1643 : BitVec 32 := 0#32
  let v2464 : BitVec 1 := Scalar.cmpi .slt v2460 c0_i32_1643
  let v2465 : BitVec 1 := Scalar.xori v2463 v2464
  let c0_i32_1641 : BitVec 32 := 0#32
  let v2462 : BitVec 1 := Scalar.cmpi .ne v2461 c0_i32_1641
  let v2466 : BitVec 1 := Scalar.andi v2465 v2462
  let v2467 : BitVec 32 := Scalar.addi v2461 v2460
  let v2468 : BitVec 32 := Scalar.select v2466 v2467 v2461
  let c1_i32_1647 : BitVec 32 := 1#32
  let v2469 : BitVec 32 := Scalar.muli v2468 c1_i32_1647
  let v2470 : BitVec 32 := Scalar.addi c0_i32_1648 v2469
  v2470.toNat
def k0_dev86 (d0 : Dev nD) : Nat :=
  let c0_i32_1662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1651 : BitVec 32 := 24#32
  let v2477 : BitVec 32 := Scalar.addi v2 c24_i32_1651
  let c32_i32_1652 : BitVec 32 := 32#32
  let c0_i32_1653 : BitVec 32 := 0#32
  let v2478 : BitVec 1 := Scalar.cmpi .eq c32_i32_1652 c0_i32_1653
  let c1_i32_1654 : BitVec 32 := 1#32
  let v2479 : BitVec 32 := Scalar.select v2478 c1_i32_1654 c32_i32_1652
  let v2480 : BitVec 32 := Scalar.remsi v2477 v2479
  let c0_i32_1656 : BitVec 32 := 0#32
  let v2482 : BitVec 1 := Scalar.cmpi .slt v2480 c0_i32_1656
  let c0_i32_1657 : BitVec 32 := 0#32
  let v2483 : BitVec 1 := Scalar.cmpi .slt v2479 c0_i32_1657
  let v2484 : BitVec 1 := Scalar.xori v2482 v2483
  let c0_i32_1655 : BitVec 32 := 0#32
  let v2481 : BitVec 1 := Scalar.cmpi .ne v2480 c0_i32_1655
  let v2485 : BitVec 1 := Scalar.andi v2484 v2481
  let v2486 : BitVec 32 := Scalar.addi v2480 v2479
  let v2487 : BitVec 32 := Scalar.select v2485 v2486 v2480
  let c1_i32_1661 : BitVec 32 := 1#32
  let v2488 : BitVec 32 := Scalar.muli v2487 c1_i32_1661
  let v2489 : BitVec 32 := Scalar.addi c0_i32_1662 v2488
  v2489.toNat
def k0_dev87 (d0 : Dev nD) : Nat :=
  let c0_i32_1676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1665 : BitVec 32 := 25#32
  let v2496 : BitVec 32 := Scalar.addi v2 c25_i32_1665
  let c32_i32_1666 : BitVec 32 := 32#32
  let c0_i32_1667 : BitVec 32 := 0#32
  let v2497 : BitVec 1 := Scalar.cmpi .eq c32_i32_1666 c0_i32_1667
  let c1_i32_1668 : BitVec 32 := 1#32
  let v2498 : BitVec 32 := Scalar.select v2497 c1_i32_1668 c32_i32_1666
  let v2499 : BitVec 32 := Scalar.remsi v2496 v2498
  let c0_i32_1670 : BitVec 32 := 0#32
  let v2501 : BitVec 1 := Scalar.cmpi .slt v2499 c0_i32_1670
  let c0_i32_1671 : BitVec 32 := 0#32
  let v2502 : BitVec 1 := Scalar.cmpi .slt v2498 c0_i32_1671
  let v2503 : BitVec 1 := Scalar.xori v2501 v2502
  let c0_i32_1669 : BitVec 32 := 0#32
  let v2500 : BitVec 1 := Scalar.cmpi .ne v2499 c0_i32_1669
  let v2504 : BitVec 1 := Scalar.andi v2503 v2500
  let v2505 : BitVec 32 := Scalar.addi v2499 v2498
  let v2506 : BitVec 32 := Scalar.select v2504 v2505 v2499
  let c1_i32_1675 : BitVec 32 := 1#32
  let v2507 : BitVec 32 := Scalar.muli v2506 c1_i32_1675
  let v2508 : BitVec 32 := Scalar.addi c0_i32_1676 v2507
  v2508.toNat
def k0_dev88 (d0 : Dev nD) : Nat :=
  let c0_i32_1690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1679 : BitVec 32 := 26#32
  let v2515 : BitVec 32 := Scalar.addi v2 c26_i32_1679
  let c32_i32_1680 : BitVec 32 := 32#32
  let c0_i32_1681 : BitVec 32 := 0#32
  let v2516 : BitVec 1 := Scalar.cmpi .eq c32_i32_1680 c0_i32_1681
  let c1_i32_1682 : BitVec 32 := 1#32
  let v2517 : BitVec 32 := Scalar.select v2516 c1_i32_1682 c32_i32_1680
  let v2518 : BitVec 32 := Scalar.remsi v2515 v2517
  let c0_i32_1684 : BitVec 32 := 0#32
  let v2520 : BitVec 1 := Scalar.cmpi .slt v2518 c0_i32_1684
  let c0_i32_1685 : BitVec 32 := 0#32
  let v2521 : BitVec 1 := Scalar.cmpi .slt v2517 c0_i32_1685
  let v2522 : BitVec 1 := Scalar.xori v2520 v2521
  let c0_i32_1683 : BitVec 32 := 0#32
  let v2519 : BitVec 1 := Scalar.cmpi .ne v2518 c0_i32_1683
  let v2523 : BitVec 1 := Scalar.andi v2522 v2519
  let v2524 : BitVec 32 := Scalar.addi v2518 v2517
  let v2525 : BitVec 32 := Scalar.select v2523 v2524 v2518
  let c1_i32_1689 : BitVec 32 := 1#32
  let v2526 : BitVec 32 := Scalar.muli v2525 c1_i32_1689
  let v2527 : BitVec 32 := Scalar.addi c0_i32_1690 v2526
  v2527.toNat
def k0_dev89 (d0 : Dev nD) : Nat :=
  let c0_i32_1704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1693 : BitVec 32 := 27#32
  let v2534 : BitVec 32 := Scalar.addi v2 c27_i32_1693
  let c32_i32_1694 : BitVec 32 := 32#32
  let c0_i32_1695 : BitVec 32 := 0#32
  let v2535 : BitVec 1 := Scalar.cmpi .eq c32_i32_1694 c0_i32_1695
  let c1_i32_1696 : BitVec 32 := 1#32
  let v2536 : BitVec 32 := Scalar.select v2535 c1_i32_1696 c32_i32_1694
  let v2537 : BitVec 32 := Scalar.remsi v2534 v2536
  let c0_i32_1698 : BitVec 32 := 0#32
  let v2539 : BitVec 1 := Scalar.cmpi .slt v2537 c0_i32_1698
  let c0_i32_1699 : BitVec 32 := 0#32
  let v2540 : BitVec 1 := Scalar.cmpi .slt v2536 c0_i32_1699
  let v2541 : BitVec 1 := Scalar.xori v2539 v2540
  let c0_i32_1697 : BitVec 32 := 0#32
  let v2538 : BitVec 1 := Scalar.cmpi .ne v2537 c0_i32_1697
  let v2542 : BitVec 1 := Scalar.andi v2541 v2538
  let v2543 : BitVec 32 := Scalar.addi v2537 v2536
  let v2544 : BitVec 32 := Scalar.select v2542 v2543 v2537
  let c1_i32_1703 : BitVec 32 := 1#32
  let v2545 : BitVec 32 := Scalar.muli v2544 c1_i32_1703
  let v2546 : BitVec 32 := Scalar.addi c0_i32_1704 v2545
  v2546.toNat
def k0_dev90 (d0 : Dev nD) : Nat :=
  let c0_i32_1718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1707 : BitVec 32 := 28#32
  let v2553 : BitVec 32 := Scalar.addi v2 c28_i32_1707
  let c32_i32_1708 : BitVec 32 := 32#32
  let c0_i32_1709 : BitVec 32 := 0#32
  let v2554 : BitVec 1 := Scalar.cmpi .eq c32_i32_1708 c0_i32_1709
  let c1_i32_1710 : BitVec 32 := 1#32
  let v2555 : BitVec 32 := Scalar.select v2554 c1_i32_1710 c32_i32_1708
  let v2556 : BitVec 32 := Scalar.remsi v2553 v2555
  let c0_i32_1712 : BitVec 32 := 0#32
  let v2558 : BitVec 1 := Scalar.cmpi .slt v2556 c0_i32_1712
  let c0_i32_1713 : BitVec 32 := 0#32
  let v2559 : BitVec 1 := Scalar.cmpi .slt v2555 c0_i32_1713
  let v2560 : BitVec 1 := Scalar.xori v2558 v2559
  let c0_i32_1711 : BitVec 32 := 0#32
  let v2557 : BitVec 1 := Scalar.cmpi .ne v2556 c0_i32_1711
  let v2561 : BitVec 1 := Scalar.andi v2560 v2557
  let v2562 : BitVec 32 := Scalar.addi v2556 v2555
  let v2563 : BitVec 32 := Scalar.select v2561 v2562 v2556
  let c1_i32_1717 : BitVec 32 := 1#32
  let v2564 : BitVec 32 := Scalar.muli v2563 c1_i32_1717
  let v2565 : BitVec 32 := Scalar.addi c0_i32_1718 v2564
  v2565.toNat
def k0_dev91 (d0 : Dev nD) : Nat :=
  let c0_i32_1732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1721 : BitVec 32 := 29#32
  let v2572 : BitVec 32 := Scalar.addi v2 c29_i32_1721
  let c32_i32_1722 : BitVec 32 := 32#32
  let c0_i32_1723 : BitVec 32 := 0#32
  let v2573 : BitVec 1 := Scalar.cmpi .eq c32_i32_1722 c0_i32_1723
  let c1_i32_1724 : BitVec 32 := 1#32
  let v2574 : BitVec 32 := Scalar.select v2573 c1_i32_1724 c32_i32_1722
  let v2575 : BitVec 32 := Scalar.remsi v2572 v2574
  let c0_i32_1726 : BitVec 32 := 0#32
  let v2577 : BitVec 1 := Scalar.cmpi .slt v2575 c0_i32_1726
  let c0_i32_1727 : BitVec 32 := 0#32
  let v2578 : BitVec 1 := Scalar.cmpi .slt v2574 c0_i32_1727
  let v2579 : BitVec 1 := Scalar.xori v2577 v2578
  let c0_i32_1725 : BitVec 32 := 0#32
  let v2576 : BitVec 1 := Scalar.cmpi .ne v2575 c0_i32_1725
  let v2580 : BitVec 1 := Scalar.andi v2579 v2576
  let v2581 : BitVec 32 := Scalar.addi v2575 v2574
  let v2582 : BitVec 32 := Scalar.select v2580 v2581 v2575
  let c1_i32_1731 : BitVec 32 := 1#32
  let v2583 : BitVec 32 := Scalar.muli v2582 c1_i32_1731
  let v2584 : BitVec 32 := Scalar.addi c0_i32_1732 v2583
  v2584.toNat
def k0_dev92 (d0 : Dev nD) : Nat :=
  let c0_i32_1746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1735 : BitVec 32 := 30#32
  let v2591 : BitVec 32 := Scalar.addi v2 c30_i32_1735
  let c32_i32_1736 : BitVec 32 := 32#32
  let c0_i32_1737 : BitVec 32 := 0#32
  let v2592 : BitVec 1 := Scalar.cmpi .eq c32_i32_1736 c0_i32_1737
  let c1_i32_1738 : BitVec 32 := 1#32
  let v2593 : BitVec 32 := Scalar.select v2592 c1_i32_1738 c32_i32_1736
  let v2594 : BitVec 32 := Scalar.remsi v2591 v2593
  let c0_i32_1740 : BitVec 32 := 0#32
  let v2596 : BitVec 1 := Scalar.cmpi .slt v2594 c0_i32_1740
  let c0_i32_1741 : BitVec 32 := 0#32
  let v2597 : BitVec 1 := Scalar.cmpi .slt v2593 c0_i32_1741
  let v2598 : BitVec 1 := Scalar.xori v2596 v2597
  let c0_i32_1739 : BitVec 32 := 0#32
  let v2595 : BitVec 1 := Scalar.cmpi .ne v2594 c0_i32_1739
  let v2599 : BitVec 1 := Scalar.andi v2598 v2595
  let v2600 : BitVec 32 := Scalar.addi v2594 v2593
  let v2601 : BitVec 32 := Scalar.select v2599 v2600 v2594
  let c1_i32_1745 : BitVec 32 := 1#32
  let v2602 : BitVec 32 := Scalar.muli v2601 c1_i32_1745
  let v2603 : BitVec 32 := Scalar.addi c0_i32_1746 v2602
  v2603.toNat
def k0_dev93 (d0 : Dev nD) : Nat :=
  let c0_i32_1760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1749 : BitVec 32 := 31#32
  let v2610 : BitVec 32 := Scalar.addi v2 c31_i32_1749
  let c32_i32_1750 : BitVec 32 := 32#32
  let c0_i32_1751 : BitVec 32 := 0#32
  let v2611 : BitVec 1 := Scalar.cmpi .eq c32_i32_1750 c0_i32_1751
  let c1_i32_1752 : BitVec 32 := 1#32
  let v2612 : BitVec 32 := Scalar.select v2611 c1_i32_1752 c32_i32_1750
  let v2613 : BitVec 32 := Scalar.remsi v2610 v2612
  let c0_i32_1754 : BitVec 32 := 0#32
  let v2615 : BitVec 1 := Scalar.cmpi .slt v2613 c0_i32_1754
  let c0_i32_1755 : BitVec 32 := 0#32
  let v2616 : BitVec 1 := Scalar.cmpi .slt v2612 c0_i32_1755
  let v2617 : BitVec 1 := Scalar.xori v2615 v2616
  let c0_i32_1753 : BitVec 32 := 0#32
  let v2614 : BitVec 1 := Scalar.cmpi .ne v2613 c0_i32_1753
  let v2618 : BitVec 1 := Scalar.andi v2617 v2614
  let v2619 : BitVec 32 := Scalar.addi v2613 v2612
  let v2620 : BitVec 32 := Scalar.select v2618 v2619 v2613
  let c1_i32_1759 : BitVec 32 := 1#32
  let v2621 : BitVec 32 := Scalar.muli v2620 c1_i32_1759
  let v2622 : BitVec 32 := Scalar.addi c0_i32_1760 v2621
  v2622.toNat
def k0_off3 (d0 : Dev nD) (c1_i32_1763 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2629 : BitVec 32 := Scalar.subi v2 c1_i32_1763
  let c32_i32_1764 : BitVec 32 := 32#32
  let c0_i32_1765 : BitVec 32 := 0#32
  let v2630 : BitVec 1 := Scalar.cmpi .eq c32_i32_1764 c0_i32_1765
  let c1_i32_1766 : BitVec 32 := 1#32
  let v2631 : BitVec 32 := Scalar.select v2630 c1_i32_1766 c32_i32_1764
  let v2632 : BitVec 32 := Scalar.remsi v2629 v2631
  let c0_i32_1768 : BitVec 32 := 0#32
  let v2634 : BitVec 1 := Scalar.cmpi .slt v2632 c0_i32_1768
  let c0_i32_1769 : BitVec 32 := 0#32
  let v2635 : BitVec 1 := Scalar.cmpi .slt v2631 c0_i32_1769
  let v2636 : BitVec 1 := Scalar.xori v2634 v2635
  let c0_i32_1767 : BitVec 32 := 0#32
  let v2633 : BitVec 1 := Scalar.cmpi .ne v2632 c0_i32_1767
  let v2637 : BitVec 1 := Scalar.andi v2636 v2633
  let v2638 : BitVec 32 := Scalar.addi v2632 v2631
  let v2639 : BitVec 32 := Scalar.select v2637 v2638 v2632
  let c32_i32_1780 : BitVec 32 := 32#32
  let v2649 : BitVec 32 := Scalar.muli v2639 c32_i32_1780
  let v2650 : Index := Scalar.indexCast v2649
  let c0_1781 : Index := 0#32
  ![v2650.toNat, 0]
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x32768 : Shape := ⟨2, ![1024, 32768]⟩
abbrev S32768x1024 : Shape := ⟨2, ![32768, 1024]⟩
abbrev S4x256x32768 : Shape := ⟨3, ![4, 256, 32768]⟩
abbrev S4x256x256x128 : Shape := ⟨4, ![4, 256, 256, 128]⟩
abbrev S_ : Shape := ⟨0, ![]⟩
abbrev S4x256x256x1 : Shape := ⟨4, ![4, 256, 256, 1]⟩
abbrev S4x256x256x256 : Shape := ⟨4, ![4, 256, 256, 256]⟩
abbrev S4x256x256 : Shape := ⟨3, ![4, 256, 256]⟩
abbrev S4x256x128x256 : Shape := ⟨4, ![4, 256, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S32768x1024, .f32⟩
  | .hbm, ⟨5, _⟩ => ⟨S4x256x32768, .f32⟩
  | .hbm, ⟨6, _⟩ => ⟨S4x256x256x128, .f32⟩
  | .hbm, ⟨7, _⟩ => ⟨S4x256x32768, .f32⟩
  | .hbm, ⟨8, _⟩ => ⟨S4x256x256x128, .f32⟩
  | .hbm, ⟨9, _⟩ => ⟨S4x256x32768, .f32⟩
  | .hbm, ⟨10, _⟩ => ⟨S4x256x256x128, .f32⟩
  | .hbm, ⟨11, _⟩ => ⟨S_, .f32⟩
  | .hbm, ⟨12, _⟩ => ⟨S4x256x256x128, .f32⟩
  | .hbm, ⟨13, _⟩ => ⟨S_, .f32⟩
  | .hbm, ⟨14, _⟩ => ⟨S4x256x256x1, .f32⟩
  | .hbm, ⟨15, _⟩ => ⟨S_, .f32⟩
  | .hbm, ⟨16, _⟩ => ⟨S4x256x256x1, .f32⟩
  | .hbm, ⟨17, _⟩ => ⟨S4x256x256x256, .f32⟩
  | .hbm, ⟨18, _⟩ => ⟨S_, .f32⟩
  | .hbm, ⟨19, _⟩ => ⟨S4x256x256x256, .f32⟩
  | .hbm, ⟨20, _⟩ => ⟨S4x256x256x256, .f32⟩
  | .hbm, ⟨21, _⟩ => ⟨S_, .f32⟩
  | .hbm, ⟨22, _⟩ => ⟨S4x256x256, .f32⟩
  | .hbm, ⟨23, _⟩ => ⟨S4x256x256x1, .f32⟩
  | .hbm, ⟨24, _⟩ => ⟨S4x256x256x1, .f32⟩
  | .hbm, ⟨25, _⟩ => ⟨S4x256x256x1, .f32⟩
  | .hbm, ⟨26, _⟩ => ⟨S4x256x256x1, .f32⟩
  | .hbm, ⟨27, _⟩ => ⟨S4x256x256x256, .f32⟩
  | .hbm, ⟨28, _⟩ => ⟨S4x256x256x256, .f32⟩
  | .hbm, ⟨29, _⟩ => ⟨S4x256x256x256, .f32⟩
  | .hbm, ⟨30, _⟩ => ⟨S4x256x256x1, .f32⟩
  | .hbm, ⟨31, _⟩ => ⟨S_, .f32⟩
  | .hbm, ⟨32, _⟩ => ⟨S4x256x256, .f32⟩
  | .hbm, ⟨33, _⟩ => ⟨S4x256x256x1, .f32⟩
  | .hbm, ⟨34, _⟩ => ⟨S4x256x256x1, .f32⟩
  | .hbm, ⟨35, _⟩ => ⟨S4x256x256x1, .f32⟩
  | .hbm, ⟨36, _⟩ => ⟨S4x256x256x128, .f32⟩
  | .hbm, ⟨37, _⟩ => ⟨S4x256x256x128, .f32⟩
  | .hbm, ⟨38, _⟩ => ⟨S4x256x128x256, .f32⟩
  | .hbm, ⟨39, _⟩ => ⟨S4x256x256x128, .f32⟩
  | .hbm, ⟨40, _⟩ => ⟨S4x256x256x128, .f32⟩
  | .hbm, ⟨41, _⟩ => ⟨S4x256x256x1, .f32⟩
  | .hbm, ⟨42, _⟩ => ⟨S4x256x256x128, .f32⟩
  | .hbm, ⟨43, _⟩ => ⟨S4x256x256x128, .f32⟩
  | .hbm, ⟨44, _⟩ => ⟨S4x256x32768, .f32⟩
  | .hbm, ⟨45, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Common.lean ====
/-
The protocol of the kernel on its 32 devices: who pays which semaphore cell, how much, and what each payment hands
over, for any float values `F`.

Step `n < 31` of either exchange goes from device `c` to device `peer c n = c + n + 1 (mod 32)`, into slot `30 - n` of the
receive buffer there, so that what device `c` receives in step `n` comes from `back c n = c - n - 1 (mod 32)`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Rounds.Family
public import Idealize.ShloMosaic.Lib.Transfers
public import Idealize.SL.BI.BigOpNat

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's ghost state: rounds whose duties are named by the step. -/
abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Devices -/

/-- The device that `c` sends to in step `n`. -/
def peer (c : Dev nD) (n : ℕ) : Dev nD := ⟨(c.val + n + 1) % 32, Nat.mod_lt _ (by decide)⟩
/-- The device that `c` receives from in step `n`. -/
def back (c : Dev nD) (n : ℕ) : Dev nD := ⟨(c.val + 31 - n) % 32, Nat.mod_lt _ (by decide)⟩

theorem peer_rev (c : Dev nD) {n : ℕ} (hn : n < 31) : peer (peer c n) (30 - n) = c := by
  apply Fin.ext; have hc : c.val < 32 := c.isLt; simp only [peer]; omega
theorem back_peer (c : Dev nD) {n : ℕ} (hn : n < 31) : back (peer c n) n = c := by
  apply Fin.ext; have hc : c.val < 32 := c.isLt; simp only [peer, back]; omega
theorem peer_back (c : Dev nD) {n : ℕ} (hn : n < 31) : peer (back c n) n = c := by
  apply Fin.ext; have hc : c.val < 32 := c.isLt; simp only [peer, back]; omega

/-- Sending in step `n`, as a permutation of the devices. -/
def ring (n : Fin 31) : Dev nD ≃ Dev nD :=
  ⟨fun c => peer c n, fun c => back c n, fun c => back_peer c n.isLt, fun c => peer_back c n.isLt⟩

/-! ## Cells -/

abbrev barS : Sem sig := sig.barrier 0 rfl
/-- The semaphores of step `n`: the two exchanges' send and receive semaphores, each at slot `30 - n` of its array. -/
def rsSendS (n : ℕ) : DmaSem sig := (⟨6 + (30 - n), by omega⟩ : Fin 130)
def rsRecvS (n : ℕ) : DmaSem sig := (⟨37 + (30 - n), by omega⟩ : Fin 130)
def agSendS (n : ℕ) : DmaSem sig := (⟨68 + (30 - n), by omega⟩ : Fin 130)
def agRecvS (n : ℕ) : DmaSem sig := (⟨99 + (30 - n), by omega⟩ : Fin 130)

abbrev barCell (c : Dev nD) : GSem nD τ sig := ((c : Thread nD τ), .reg barS)
abbrev rsSendC (c : Dev nD) (n : ℕ) : GSem nD τ sig := ((c : Thread nD τ), .dma (rsSendS n))
abbrev rsRecvC (c : Dev nD) (n : ℕ) : GSem nD τ sig := ((c : Thread nD τ), .dma (rsRecvS n))
abbrev agSendC (c : Dev nD) (n : ℕ) : GSem nD τ sig := ((c : Thread nD τ), .dma (agSendS n))
abbrev agRecvC (c : Dev nD) (n : ℕ) : GSem nD τ sig := ((c : Thread nD τ), .dma (agRecvS n))

/-! ## Buffers and their pieces -/

abbrev accfM : Memref sig .tc .vmem S1024x1024 .f32 := Memref.whole cc0_scratch0
abbrev attM : Memref sig .tc .vmem S1024x1024 .f32 := Memref.whole cc0_scratch1
abbrev accbMr : Memref sig .tc .vmem S1024x1024 .bf16 := Memref.whole cc0_scratch2
abbrev rsM : Memref sig .tc .vmem S31x32x1024 .bf16 := Memref.whole cc0_scratch3
abbrev agM : Memref sig .tc .vmem S31x32x1024 .bf16 := Memref.whole cc0_scratch4
abbrev redMr : Memref sig .tc .vmem S32x1024 .bf16 := Memref.whole cc0_scratch5
abbrev outM : Memref sig .tc .vmem S1024x1024 .f32 := Memref.whole cc0_stg5_0

theorem slot_inb (n : ℕ) : ∀ a, (![30 - n, 0, 0] : Fin 3 → ℕ) a + S1x32x1024.size a ≤ S31x32x1024.size a := by
  intro a; fin_cases a <;> simp <;> omega

/-- The rectangle of a receive buffer that step `n` lands in. -/
abbrev slotR (n : ℕ) : Rect S31x32x1024 := Rect.unit ![30 - n, 0, 0] S1x32x1024.size (slot_inb n)
/-- The landing places of step `n`, as the kernel spells them. -/
abbrev rsSl (n : ℕ) : Memref sig .tc .vmem S32x1024 .bf16 :=
  (rsM.slice (slotR n) (fun _ => rfl)).squeeze S32x1024 squeezes_S1x32x1024_S32x1024
abbrev agSl (n : ℕ) : Memref sig .tc .vmem S32x1024 .bf16 :=
  (agM.slice (slotR n) (fun _ => rfl)).squeeze S32x1024 squeezes_S1x32x1024_S32x1024

/-- The rows of the partial sums that device `c` sends in step `n`: those of device `peer c n`. -/
abbrev accSl (c : Dev nD) (n : ℕ) : Memref sig .tc .vmem S32x1024 .bf16 :=
  accbMr.slice (Rect.unit (s := S1024x1024) (k0_off1 c (BitVec.ofNat 32 (1 + (⟨n % 31, Nat.mod_lt _ (by decide)⟩ : Fin 31).val))) S32x1024.size
    (k0_off1_inb c ⟨n % 31, Nat.mod_lt _ (by decide)⟩)) (fun _ => rfl)

/-- What each transfer credits its two cells with. -/
def N : ℕ := RefSig.tileCredit S32x1024 .bf16
theorem N_pos : 0 < N := RefSig.tileCredit_pos _ _ (by decide)

theorem credit_rs (n : ℕ) : (rsSl n).view.dmaCredit = N := rfl
theorem credit_ag (n : ℕ) : (agSl n).view.dmaCredit = N := rfl
theorem credit_acc (c : Dev nD) (n : ℕ) : (accSl c n).view.dmaCredit = N := rfl
theorem credit_red : redMr.view.dmaCredit = N := rfl

/-! ## What the buffers hold -/

variable (m : (ℓ : Loc nD τ sig) → Buf (Elt F) ℓ)

/-- Device `c`'s arguments: the activations and its columns of the four weights. -/
def X (c : Dev nD) : Vec F S4x256x1024 .f32 := m ((c : Thread nD τ).loc main_arg0)
def Wq (c : Dev nD) : Vec F S1024x1024 .f32 := m ((c : Thread nD τ).loc main_arg1)
def Wk (c : Dev nD) : Vec F S1024x1024 .f32 := m ((c : Thread nD τ).loc main_arg2)
def Wv (c : Dev nD) : Vec F S1024x1024 .f32 := m ((c : Thread nD τ).loc main_arg3)
def Wo (c : Dev nD) : Vec F S1024x1024 .f32 := m ((c : Thread nD τ).loc main_arg4)

/-- Where block `n` of the attention scratch starts: batch `n / 8`, head `n % 8`. -/
def blkOff (n : ℕ) : Fin 2 → ℕ := ![256 * (n % 32 / 8), 128 * (n % 8)]

theorem blk_slices (n : ℕ) : S1024x1024.Slices (blkOff n) S256x128 :=
  ⟨rfl, fun a => by fin_cases a <;> simp [blkOff] <;> omega⟩
theorem blk_inb (n : ℕ) : ∀ a, blkOff n a + S256x128.size a ≤ S1024x1024.size a := by
  intro a; fin_cases a <;> simp [blkOff] <;> omega

/-- One head of one batch: the softmax of the scaled scores times the values. -/
def headBlk (q k v : FVec F S1024x1024 .f32) (n : ℕ) : FVec F S256x128 .f32 :=
  have s : FVec F S256x256 .f32 := mulf
    (matmul dot_S256x128_S256x128_S256x256_1_1_0_0_n_n none (extractStridedSlice S256x128 (blkOff n) q (blk_slices n))
      (extractStridedSlice S256x128 (blkOff n) k (blk_slices n)) (constant S256x256 .f32 0x00000000#32))
    (broadcast S256x256 (Scalar.ofBits .f32 0x3DB504F3#32))
  have p : FVec F S256x256 .f32 := exp (subf s (broadcastTo S256x256
    (shapeCast S256x1 (multiReduction .maximumf [1] S256 s 0xFF800000#32 reduces_S256x256_S256 (.inl rfl) rfl) shapeCasts_S256_S256x1)
    broadcasts_S256x1_S256x256))
  have l : FVec F S256x1 .f32 :=
    shapeCast S256x1 (multiReduction .add [1] S256 p 0x00000000#32 reduces_S256x256_S256 (.inl rfl) rfl) shapeCasts_S256_S256x1
  shapeCast S256x128 (divf
    (matmul dot_S256x256_S256x128_S256x128_1_0_0_1_n_n none p (extractStridedSlice S256x128 (blkOff n) v (blk_slices n))
      (constant S256x128 .f32 0x00000000#32))
    (broadcastTo S256x128 l broadcasts_S256x1_S256x128)) shapeCasts_S256x128_S256x128

/-- An index of a matrix from its row and column. -/
def mk2 {r k : ℕ} (a : Fin r) (b : Fin k) : (⟨2, ![r, k]⟩ : Shape).Idx := fun | 0 => a | 1 => b

/-- The block of the attention scratch that an index lies in, and its place there. -/
def blkOf (i : S1024x1024.Idx) : ℕ := 8 * ((i 0).val / 256) + (i 1).val / 128
def inBlk (i : S1024x1024.Idx) : S256x128.Idx :=
  mk2 ⟨(i 0).val % 256, Nat.mod_lt _ (by decide)⟩ ⟨(i 1).val % 128, Nat.mod_lt _ (by decide)⟩

def blkC (c : Dev nD) (n : ℕ) : FVec F S256x128 .f32 :=
  headBlk (k0_pay2 (X m c) (Wq m c)) (k0_pay3 (X m c) (Wk m c)) (k0_pay4 (X m c) (Wv m c)) n

/-- The attention scratch when every head is done. -/
def attn (c : Dev nD) : Vec F S1024x1024 .f32 := fun i => blkC m c (blkOf i) (inBlk i)

/-- The partial sums, and the same in the exchange's format. -/
def accf (c : Dev nD) : Vec F S1024x1024 .f32 := k0_pay67 (attn m c) (Wo m c)
def accb (c : Dev nD) : Vec F S1024x1024 .bf16 := k0_pay68 (attn m c) (Wo m c)

/-- What lands on device `t` in step `n` of the first exchange: its rows of the partial sums of `back t n`. -/
def rsV (t : Dev nD) (n : ℕ) : Vec F S32x1024 .bf16 := (accSl (back t n) n).view.read (Elt F) (accb m (back t n))

/-- A slot's contents as a load of the slot returns them. -/
def unsq (v : Vec F S32x1024 .bf16) : Vec F S1x32x1024 .bf16 := shapeCast S1x32x1024 v (by decide)

/-- The sum over the first `n` steps of what landed on `c`, from `c`'s own rows on. -/
def redF (c : Dev nD) : ℕ → FVec F S32x1024 .f32
  | 0 => accfM.view.readAt (Elt F) (Rect.unit (s := S1024x1024) (k0_off2 c) S32x1024.size (k0_off2_inb c)).toLoadRect (accf m c)
  | n + 1 => k0_pay69 (redF c n) (unsq (rsV m c n))

/-- Device `c`'s rows of the result, and the same in the exchange's format. -/
def red (c : Dev nD) : FVec F S32x1024 .f32 := redF m c 31
def redb (c : Dev nD) : Vec F S32x1024 .bf16 := k0_pay83 (redF m c 30) (unsq (rsV m c 30))

/-- The result on device `c`: its own rows as summed, every other device's rows as they came over. -/
def OUT (c : Dev nD) : Vec F S1024x1024 .f32 := fun i =>
  if (i 0).val / 32 = c.val then red m c (mk2 ⟨(i 0).val % 32, Nat.mod_lt _ (by decide)⟩ (i 1))
  else k0_pay84 (unsq (redb m ⟨(i 0).val / 32, Nat.div_lt_of_lt_mul (i 0).isLt⟩)) (mk2 ⟨(i 0).val % 32, Nat.mod_lt _ (by decide)⟩ (i 1))

/-! ## Points-tos -/

abbrev rsPts (t : Dev nD) (n : ℕ) (f : Buf (Elt F) ((t : Thread nD τ).loc cc0_scratch3)) : sProp 𝕄 :=
  (rsSl n).view.loc (t : Thread nD τ) ↦[(rsSl n).view.set]{fullShare} f
abbrev agPts (t : Dev nD) (n : ℕ) (f : Buf (Elt F) ((t : Thread nD τ).loc cc0_scratch4)) : sProp 𝕄 :=
  (agSl n).view.loc (t : Thread nD τ) ↦[(agSl n).view.set]{fullShare} f

/-- A slot at contents not named. -/
def rsAny (t : Dev nD) (n : ℕ) : sProp 𝕄 := iprop(∃ f, rsPts t n f)
def agAny (t : Dev nD) (n : ℕ) : sProp 𝕄 := iprop(∃ f, agPts t n f)
/-- A slot that step `n` has landed in. -/
def rsLand (t : Dev nD) (n : ℕ) : sProp 𝕄 := iprop(∃ f, rsPts t n f ∗ ⌜(rsSl n).view.read (Elt F) f = rsV m t n⌝)
def agLand (t : Dev nD) (n : ℕ) : sProp 𝕄 := iprop(∃ f, agPts t n f ∗ ⌜(agSl n).view.read (Elt F) f = redb m (back t n)⌝)
/-- The rows that step `n` of the first exchange reads. -/
def accPts (c : Dev nD) (n : ℕ) : sProp 𝕄 :=
  (accSl c n).view.loc (c : Thread nD τ) ↦[(accSl c n).view.set]{fullShare} accb m c
/-- The share of the summed rows that step `n` of the second exchange reads. -/
def redPts (c : Dev nD) (n : ℕ) : sProp 𝕄 :=
  redMr.view.loc (c : Thread nD τ) ↦[redMr.view.set]{Transfers.shareTokN fullShare n} redb m c

/-! ## The schedule -/

/-- Duty `n` of device `p`'s barrier cell is paid by `peer p n`: it hands over the slots that `p` will write there in step
    `n`, and that the cells those transfers credit are in their first round. -/
def barPay (p : Dev nD) (n : ℕ) : sProp 𝕄 :=
  iprop(rsAny (peer p n) n ∗ agAny (peer p n) n ∗ reached ER (rsRecvC (peer p n) n) 0 ∗ reached ER (agRecvC (peer p n) n) 0)

/-- What a duty hands over, by cell. -/
def pay (c : Dev nD) (d : ℕ) : SemLoc sig → sProp 𝕄
  | .reg _ => barPay c d
  | .dma q => if q.val < 37 then accPts m c (36 - q.val) else if q.val < 68 then rsLand m c (67 - q.val)
      else if q.val < 99 then redPts m c (98 - q.val) else agLand m c (129 - q.val)

def dutiesOf : SemLoc sig → Finset ℕ
  | .reg _ => Finset.range 31
  | .dma q => if 6 ≤ q.val then {0} else ∅

def amountOf : SemLoc sig → ℕ
  | .reg _ => 1
  | .dma _ => N

theorem amountOf_pos (s : SemLoc sig) : 0 < amountOf s := by
  cases s
  · exact Nat.one_pos
  · exact N_pos

/-- Every cell has one round. -/
def Rd : Schedule (GSem nD τ sig) ℕ 𝕄 where
  duties g r := if r = 0 ∧ g.1.2 = .tc then dutiesOf g.2 else ∅
  unitless _ := False
  amount g _ _ := amountOf g.2
  payload g _ d := pay m g.1.1 d g.2
  amount_pos g _ _ _ := amountOf_pos g.2

instance Rd_storable (g : GSem nD τ sig) (r : ℕ) (d : ℕ) : BI.Storable (upEmb : UEmb _ 𝕄) ((Rd (F := F) m).payload g r d) := by
  show BI.Storable upEmb (pay m g.1.1 d g.2)
  unfold pay barPay accPts rsLand redPts agLand rsAny agAny
  cases g.2 <;> dsimp only <;> (repeat' split) <;> infer_instance

section Sched

variable (c : Dev nD) (n : ℕ)

theorem duties_bar : (Rd (F := F) m).duties (barCell c) 0 = Finset.range 31 := by
  dsimp only [Rd]; rw [if_pos ⟨rfl, rfl⟩]; rfl
theorem duties_dma (q : DmaSem sig) (h : 6 ≤ q.val) : (Rd (F := F) m).duties ((c : Thread nD τ), .dma q) 0 = {0} := by
  dsimp only [Rd]; rw [if_pos ⟨rfl, rfl⟩]; exact if_pos h
theorem duties_later (g : GSem nD τ sig) : ∀ r, 1 ≤ r → (Rd (F := F) m).duties g r = ∅ :=
  fun r hr => if_neg fun h => by omega

theorem mem_dma (q : DmaSem sig) (h : 6 ≤ q.val) : 0 ∈ (Rd (F := F) m).duties ((c : Thread nD τ), .dma q) 0 := by
  rw [duties_dma m c q h]; exact Finset.mem_singleton_self _

theorem six_rsSend : 6 ≤ (rsSendS n).val := by simp only [rsSendS]; omega
theorem six_rsRecv : 6 ≤ (rsRecvS n).val := by simp only [rsRecvS]; omega
theorem six_agSend : 6 ≤ (agSendS n).val := by simp only [agSendS]; omega
theorem six_agRecv : 6 ≤ (agRecvS n).val := by simp only [agRecvS]; omega

theorem expect_bar : (Rd (F := F) m).expect (barCell c) 0 = 31 := by
  have h : ∀ d, (Rd (F := F) m).amount (barCell c) 0 d = 1 := fun _ => rfl
  unfold Schedule.expect Schedule.amountOf; rw [duties_bar, Finset.sum_congr rfl fun d _ => h d, Finset.sum_const, Finset.card_range]; rfl
theorem expect_dma (q : DmaSem sig) (h : 6 ≤ q.val) : (Rd (F := F) m).expect ((c : Thread nD τ), .dma q) 0 = N := by
  unfold Schedule.expect Schedule.amountOf; rw [duties_dma m c q h, Finset.sum_singleton]; rfl

theorem pay_bar (d : ℕ) : (Rd (F := F) m).payload (barCell c) 0 d = barPay c d := rfl

variable {n} (hn : n < 31)
include hn

theorem pay_rsSend : (Rd (F := F) m).payload (rsSendC c n) 0 0 = accPts m c n := by
  have h1 : (rsSendS n).val = 36 - n := by simp only [rsSendS]; omega
  dsimp only [Rd, pay]; rw [if_pos (by omega), show 36 - (rsSendS n).val = n by omega]
theorem pay_rsRecv : (Rd (F := F) m).payload (rsRecvC c n) 0 0 = rsLand m c n := by
  have h1 : (rsRecvS n).val = 67 - n := by simp only [rsRecvS]; omega
  dsimp only [Rd, pay]; rw [if_neg (by omega), if_pos (by omega), show 67 - (rsRecvS n).val = n by omega]
theorem pay_agSend : (Rd (F := F) m).payload (agSendC c n) 0 0 = redPts m c n := by
  have h1 : (agSendS n).val = 98 - n := by simp only [agSendS]; omega
  dsimp only [Rd, pay]; rw [if_neg (by omega), if_neg (by omega), if_pos (by omega), show 98 - (agSendS n).val = n by omega]
theorem pay_agRecv : (Rd (F := F) m).payload (agRecvC c n) 0 0 = agLand m c n := by
  have h1 : (agRecvS n).val = 129 - n := by simp only [agRecvS]; omega
  dsimp only [Rd, pay]; rw [if_neg (by omega), if_neg (by omega), if_neg (by omega), show 129 - (agRecvS n).val = n by omega]

end Sched

/-- What a wait for a whole round of a transfer's cell hands over. -/
theorem rest_dma (c : Dev nD) (q : DmaSem sig) (h : 6 ≤ q.val) :
    bigSep ((Rd (F := F) m).duties ((c : Thread nD τ), .dma q) 0 \ ∅) (fun d => (Rd (F := F) m).payload ((c : Thread nD τ), .dma q) 0 d)
      = (Rd (F := F) m).payload ((c : Thread nD τ), .dma q) 0 0 := by
  rw [Finset.sdiff_empty, duties_dma m c q h, bigSep_singleton]
theorem rest_bar (c : Dev nD) :
    bigSep ((Rd (F := F) m).duties (barCell c) 0 \ ∅) (fun d => (Rd (F := F) m).payload (barCell c) 0 d)
      = bigSep (Finset.range 31) (fun n => barPay (F := F) c n) := by
  rw [Finset.sdiff_empty, duties_bar]; rfl

/-! ## What each device owes; the levels -/

/-- What `c` still owes before step `n`: a unit to each later peer's barrier, and each later transfer's credit on the receiver. -/
def Obar (c : Dev nD) (n : ℕ) : CellTallies nD τ sig Unit := ∑ k ∈ Finset.Ico n 31, tallyAt (barCell (peer c k)) () 1
def Ors (c : Dev nD) (n : ℕ) : CellTallies nD τ sig Unit := ∑ k ∈ Finset.Ico n 31, tallyAt (rsRecvC (peer c k) k) () N
def Oag (c : Dev nD) (n : ℕ) : CellTallies nD τ sig Unit := ∑ k ∈ Finset.Ico n 31, tallyAt (agRecvC (peer c k) k) () N
def O₀ (c : Dev nD) : CellTallies nD τ sig Unit := Oag c 0 + Ors c 0 + Obar c 0

/-- A sum over an interval, its first term set apart. -/
theorem sum_first {A : Type} [AddCommMonoid A] {a b : ℕ} (h : a < b) (f : ℕ → A) :
    ∑ k ∈ Finset.Ico a b, f k = (∑ k ∈ Finset.Ico (a + 1) b, f k) + f a := by
  rw [show Finset.Ico a b = insert a (Finset.Ico (a + 1) b) by ext x; simp only [Finset.mem_Ico, Finset.mem_insert]; omega,
    Finset.sum_insert (by simp), add_comm]

theorem Obar_succ (c : Dev nD) {n : ℕ} (hn : n < 31) : Obar c n = Obar c (n + 1) + tallyAt (barCell (peer c n)) () 1 :=
  sum_first hn _
theorem Ors_succ (c : Dev nD) {n : ℕ} (hn : n < 31) : Ors c n = Ors c (n + 1) + tallyAt (rsRecvC (peer c n) n) () N :=
  sum_first hn _
theorem Oag_succ (c : Dev nD) {n : ℕ} (hn : n < 31) : Oag c n = Oag c (n + 1) + tallyAt (agRecvC (peer c n) n) () N :=
  sum_first hn _
theorem Obar_end (c : Dev nD) : Obar c 31 = 0 := by rw [Obar, Finset.Ico_self]; rfl
theorem Ors_end (c : Dev nD) : Ors c 31 = 0 := by rw [Ors, Finset.Ico_self]; rfl
theorem Oag_end (c : Dev nD) : Oag c 31 = 0 := by rw [Oag, Finset.Ico_self]; rfl

def L (g : GSem nD τ sig) : Finset Unit := if g.1.2 = .tc then {()} else ∅

/-- The barrier lowest of the three that are waited for while something is owed, the second exchange's receive cells highest. -/
def lvOf : SemLoc sig → ℕ
  | .reg _ => 1
  | .dma q => if q.val < 37 then 0 else if q.val < 68 then 2 else if q.val < 99 then 0 else 3
def lv (g : GSem nD τ sig) (_ : Unit) : ℕ := lvOf g.2

theorem L_tc (c : Dev nD) (sm : SemLoc sig) : L ((c : Thread nD τ), sm) = {()} := if_pos rfl
theorem L_of_ne (g : GSem nD τ sig) (h : g.1.2 ≠ .tc) : L g = ∅ := if_neg h

theorem lv_rsRecv (n : ℕ) : lvOf (.dma (rsRecvS n)) = 2 := by
  have h : (rsRecvS n).val = 37 + (30 - n) := rfl
  unfold lvOf; dsimp only; rw [if_neg (by omega), if_pos (by omega)]
theorem lv_agRecv (n : ℕ) : lvOf (.dma (agRecvS n)) = 3 := by
  have h : (agRecvS n).val = 99 + (30 - n) := rfl
  unfold lvOf; dsimp only; rw [if_neg (by omega), if_neg (by omega), if_neg (by omega)]

/-- A sum of tallies is positive only at a cell of one of them. -/
theorem pos_sum {S : Finset ℕ} {f : ℕ → GSem nD τ sig} {v : ℕ} {g : GSem nD τ sig} {u : Unit}
    (h : 0 < (∑ k ∈ S, (tallyAt (f k) () v : CellTallies nD τ sig Unit)) g u) : ∃ k ∈ S, g = f k := by
  induction S using Finset.induction_on with
  | empty => exact absurd h (Nat.lt_irrefl 0)
  | insert a S ha ih =>
    rw [Finset.sum_insert ha, Pi.add_apply, Finsupp.add_apply, tallyAt_apply] at h
    by_cases hg : g = f a ∧ u = ()
    · exact ⟨a, Finset.mem_insert_self _ _, hg.1⟩
    · rw [if_neg hg, zero_add] at h
      obtain ⟨k, hk, e⟩ := ih h
      exact ⟨k, Finset.mem_insert_of_mem hk, e⟩

theorem pos_Ors {c : Dev nD} {n : ℕ} {g : GSem nD τ sig} {u : Unit} (h : 0 < Ors c n g u) : g.1.2 = .tc ∧ lv g u = 2 := by
  obtain ⟨k, -, rfl⟩ := pos_sum h; exact ⟨rfl, lv_rsRecv k⟩
theorem pos_Oag {c : Dev nD} {n : ℕ} {g : GSem nD τ sig} {u : Unit} (h : 0 < Oag c n g u) : g.1.2 = .tc ∧ lv g u = 3 := by
  obtain ⟨k, -, rfl⟩ := pos_sum h; exact ⟨rfl, lv_agRecv k⟩
theorem pos_Obar {c : Dev nD} {n : ℕ} {g : GSem nD τ sig} {u : Unit} (h : 0 < Obar c n g u) : g.1.2 = .tc ∧ lv g u = 1 := by
  obtain ⟨k, -, rfl⟩ := pos_sum h; exact ⟨rfl, rfl⟩
theorem pos_add {A B : CellTallies nD τ sig Unit} {g : GSem nD τ sig} {u : Unit} (h : 0 < (A + B) g u) : 0 < A g u ∨ 0 < B g u := by
  rw [Pi.add_apply, Finsupp.add_apply] at h; omega

/-- A device may wait at a cell that lies below everything it owes. -/
theorem mayWait {c : Dev nD} {sm : SemLoc sig} {O : CellTallies nD τ sig Unit} (h : ∀ g u, 0 < O g u → g.1.2 = .tc ∧ lvOf sm < lv g u) :
    (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

theorem mayWait_bar (c : Dev nD) : (levAts L lv : sProp 𝕄) ⊢ MayWait (c : Thread nD τ) (.reg barS) () (Oag c 0 + Ors c 0) :=
  mayWait fun g u h => by
    rcases pos_add h with h | h
    · have := pos_Oag h; exact ⟨this.1, by rw [this.2]; decide⟩
    · have := pos_Ors h; exact ⟨this.1, by rw [this.2]; decide⟩
theorem mayWait_rs (c : Dev nD) (n : ℕ) : (levAts L lv : sProp 𝕄) ⊢ MayWait (c : Thread nD τ) (.dma (rsRecvS n)) () (Oag c 0) :=
  mayWait fun g u h => by have := pos_Oag h; exact ⟨this.1, by rw [this.2, lv_rsRecv]; decide⟩

/-! ## The cells' invariants -/

/-- The barrier cells, and the four families of transfer cells, of every device. -/
def barEmb : Dev nD ↪ GSem nD τ sig := ⟨barCell, fun _ _ h => congrArg (fun g : GSem nD τ sig => g.1.1) h⟩
def ownS (q : Fin 124) : SemLoc sig := .dma (⟨6 + q.val, by omega⟩ : Fin 130)
theorem ownS_inj : Function.Injective ownS := fun a b h => by
  have h' : 6 + a.val = 6 + b.val := congrArg Fin.val (SemLoc.dma.inj h)
  apply Fin.ext; omega
def dmaEmb : Dev nD × Fin 124 ↪ GSem nD τ sig :=
  ⟨fun p => ((p.1 : Thread nD τ), ownS p.2), fun _ _ h =>
    Prod.ext (congrArg (fun g : GSem nD τ sig => g.1.1) h) (ownS_inj (congrArg Prod.snd h))⟩
abbrev barCells : Finset (GSem nD τ sig) := Finset.univ.map barEmb
abbrev dmaCells : Finset (GSem nD τ sig) := Finset.univ.map dmaEmb

theorem mem_barCell (c : Dev nD) : barCell c ∈ barCells ∪ dmaCells :=
  Finset.mem_union_left _ (Finset.mem_map_of_mem barEmb (Finset.mem_univ c))
theorem mem_dmaCell (c : Dev nD) (q : DmaSem sig) (h : 6 ≤ q.val) : ((c : Thread nD τ), SemLoc.dma q) ∈ barCells ∪ dmaCells := by
  have hq : q.val < 130 := q.isLt
  refine Finset.mem_union_right _ (Finset.mem_map.mpr ⟨(c, ⟨q.val - 6, by omega⟩), Finset.mem_univ _, ?_⟩)
  refine congrArg (fun x : DmaSem sig => (((c : Thread nD τ), SemLoc.dma x) : GSem nD τ sig)) (Fin.ext ?_)
  show 6 + (q.val - 6) = q.val
  omega

/-- Every cell's invariant, at the names `K`. -/
@[irreducible] def invs (K : GSem nD τ sig → ℕ) : sProp 𝕄 := bigSep (barCells ∪ dmaCells) fun g => cellInv ER (Rd m) (K g) g
instance invs_persistent (K : GSem nD τ sig → ℕ) : BI.Persistent (invs m K) := by unfold invs; infer_instance

theorem invs_get {K : GSem nD τ sig → ℕ} {g : GSem nD τ sig} (h : g ∈ barCells ∪ dmaCells) :
    invs m K ⊢ cellInv ER (Rd m) (K g) g := by
  unfold invs; exact bigSep_elim h

end Cert.Attn

end
-- ==== Proof.Steps.lean ====
/-
One operation of the kernel at a time: for every kind of operation the state it is met in, the state it leaves, and what the
program goes on with. The walk over the program only applies these.
-/
module

public import proofs.«01_k».proof.Proof.Common

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where the rectangles lie -/

theorem off1_eq : ∀ (c : Dev nD) (k : Fin 31), k0_off1 c (BitVec.ofNat 32 (1 + k.val)) = ![32 * ((c.val + k.val + 1) % 32), 0] := by
  decide +kernel
theorem off3_eq : ∀ (c : Dev nD) (k : Fin 31), k0_off3 c (BitVec.ofNat 32 (1 + k.val)) = ![32 * ((c.val + 31 - k.val) % 32), 0] := by
  decide +kernel

/-- A block of the attention scratch; the rows of the result that step `n` of the second exchange fills, and the device's own. -/
abbrev blkR (n : ℕ) : Rect S1024x1024 := Rect.unit (blkOff n) S256x128.size (blk_inb n)
abbrev outR (c : Dev nD) (n : ℕ) : Rect S1024x1024 :=
  Rect.unit (s := S1024x1024) (k0_off3 c (BitVec.ofNat 32 (1 + (⟨n % 31, Nat.mod_lt _ (by decide)⟩ : Fin 31).val))) S32x1024.size
    (k0_off3_inb c ⟨n % 31, Nat.mod_lt _ (by decide)⟩)
abbrev ownR (c : Dev nD) : Rect S1024x1024 := Rect.unit (s := S1024x1024) (k0_off2 c) S32x1024.size (k0_off2_inb c)

/-- A write through a view, an element at a time. -/
theorem write_cases {κ : Kind} {sp : Space} {s : Shape} {e : EltTy} (v : View sig κ sp s e) (f : v.ty.Contents (Elt F)) (w : s.Idx → Elt F e) (i : v.ty.Idx) :
    (∃ x, v.emb x = i ∧ v.write (Elt F) f w Finset.univ i = _root_.cast (congrArg (Elt F) v.elt_eq.symm) (w x))
      ∨ ((∀ x, v.emb x ≠ i) ∧ v.write (Elt F) f w Finset.univ i = f i) := by
  by_cases h : ∃ x, v.emb x = i
  · obtain ⟨x, rfl⟩ := h
    exact .inl ⟨x, rfl, View.write_emb_of_mem _ _ (Finset.mem_univ x)⟩
  · refine .inr ⟨fun x hx => h ⟨x, hx⟩, View.write_of_not_mem _ _ _ fun hi => h ?_⟩
    obtain ⟨x, -, hx⟩ := Finset.mem_map.mp hi
    exact ⟨x, hx⟩

/-- Storing block `n` makes the scratch right on block `n` too. -/
theorem att_write (c : Dev nD) {n : ℕ} (hn : n < 32) (f : Buf (Elt F) ((c : Thread nD τ).loc cc0_scratch1))
    (hf : ∀ i, blkOf i < n → f i = attn m c i) :
    ∀ i, blkOf i < n + 1 → (attM.access (blkR n)).write (Elt F) f (blkC m c n) Finset.univ i = attn m c i := by
  intro i hi
  rcases write_cases (attM.access (blkR n)) f (blkC m c n) i with ⟨x, hx, e⟩ | ⟨hx, e⟩
  · refine e.trans ?_
    have e0 : (i 0).val = 256 * (n % 32 / 8) + (x 0).val := by
      rw [← hx]; show blkOff n 0 + 1 * (x 0).val = _; rw [Nat.one_mul]; rfl
    have e1 : (i 1).val = 128 * (n % 8) + (x 1).val := by
      rw [← hx]; show blkOff n 1 + 1 * (x 1).val = _; rw [Nat.one_mul]; rfl
    have h0 : (x 0).val < 256 := (x 0).isLt
    have h1 : (x 1).val < 128 := (x 1).isLt
    have hb : blkOf i = n := by unfold blkOf; omega
    have hi' : inBlk i = x := by
      funext a; apply Fin.ext
      fin_cases a
      · show (i 0).val % 256 = (x 0).val; omega
      · show (i 1).val % 128 = (x 1).val; omega
    unfold attn; rw [hb, hi']; rfl
  · refine e.trans (hf i ?_)
    refine lt_of_le_of_ne (Nat.lt_succ_iff.mp hi) fun hb => hx (inBlk i) ?_
    have h0 : (i 0).val < 1024 := (i 0).isLt
    have h1 : (i 1).val < 1024 := (i 1).isLt
    unfold blkOf at hb
    funext a; apply Fin.ext
    fin_cases a
    · show blkOff n 0 + 1 * ((i 0).val % 256) = (i 0).val
      rw [show blkOff n 0 = 256 * (n % 32 / 8) from rfl]; omega
    · show blkOff n 1 + 1 * ((i 1).val % 128) = (i 1).val
      rw [show blkOff n 1 = 128 * (n % 8) from rfl]; omega

/-- Storing rows `32 p` to `32 p + 31` as the result has them makes the result right there too. -/
theorem out_write (c p : Dev nD) (off : Fin 2 → ℕ) (hoff : off = ![32 * p.val, 0]) (inb : ∀ a, off a + S32x1024.size a ≤ S1024x1024.size a)
    (w : Vec F S32x1024 .f32) (hw : ∀ i : S1024x1024.Idx, (i 0).val / 32 = p.val → OUT m c i = w (mk2 ⟨(i 0).val % 32, Nat.mod_lt _ (by decide)⟩ (i 1)))
    (S : ℕ → Prop) (f : Buf (Elt F) ((c : Thread nD τ).loc cc0_stg5_0)) (hf : ∀ i : S1024x1024.Idx, S ((i 0).val / 32) → f i = OUT m c i) :
    ∀ i : S1024x1024.Idx, (S ((i 0).val / 32) ∨ (i 0).val / 32 = p.val) →
      (outM.access (Rect.unit (s := S1024x1024) off S32x1024.size inb)).write (Elt F) f w Finset.univ i = OUT m c i := by
  subst hoff
  intro i hi
  rcases write_cases (outM.access (Rect.unit (s := S1024x1024) ![32 * p.val, 0] S32x1024.size inb)) f w i with ⟨x, hx, e⟩ | ⟨hx, e⟩
  · refine e.trans ?_
    have e0 : (i 0).val = 32 * p.val + (x 0).val := by
      rw [← hx]; show 32 * p.val + 1 * (x 0).val = _; rw [Nat.one_mul]
    have e1 : (i 1).val = (x 1).val := by
      rw [← hx]; show 0 + 1 * (x 1).val = _; omega
    have h0 : (x 0).val < 32 := (x 0).isLt
    rw [hw i (by omega)]
    have hx' : (mk2 ⟨(i 0).val % 32, Nat.mod_lt _ (by decide)⟩ (i 1) : S32x1024.Idx) = x := by
      funext a; apply Fin.ext
      fin_cases a
      · show (i 0).val % 32 = (x 0).val; omega
      · exact e1
    rw [hx']; rfl
  · refine e.trans (hf i (hi.resolve_right fun hp => hx (mk2 ⟨(i 0).val % 32, Nat.mod_lt _ (by decide)⟩ (i 1)) ?_))
    funext a; apply Fin.ext
    fin_cases a
    · show 32 * p.val + 1 * ((i 0).val % 32) = (i 0).val; omega
    · show 0 + 1 * (i 1).val = (i 1).val; omega

/-- A load of a slot reads what the slot's view reads. -/
theorem slot_readRs (n : ℕ) (f : rsM.view.ty.Contents (Elt F)) :
    rsM.view.readAt (Elt F) (slotR n).toLoadRect f = unsq ((rsSl n).view.read (Elt F) f) := by
  funext x
  unfold unsq shapeCast
  rw [View.readAt_rect, View.read_apply, View.read_apply]
  show _ = _root_.cast _ (f ((rsM.view.slice (slotR n)).emb (Shape.reshapeEquiv _ (Shape.reshapeEquiv _ x))))
  rw [Shape.reshapeEquiv_reshapeEquiv, Shape.reshapeEquiv_self]
theorem slot_readAg (n : ℕ) (f : agM.view.ty.Contents (Elt F)) :
    agM.view.readAt (Elt F) (slotR n).toLoadRect f = unsq ((agSl n).view.read (Elt F) f) := slot_readRs n f

/-! ## The states -/

/-- What stays true throughout: the cells' invariants, the levels, and that every cell is in its first round. -/
@[irreducible] def ctx (K : GSem nD τ sig → ℕ) (c : Dev nD) : sProp 𝕄 :=
  iprop(invs m K ∗ levAts L lv ∗ (bigSep Finset.univ fun d : Dev nD => reached ER (barCell d) 0)
    ∗ (bigSep (Finset.range 31) fun n => reached ER (rsSendC c n) 0) ∗ (bigSep (Finset.range 31) fun n => reached ER (rsRecvC c n) 0)
    ∗ (bigSep (Finset.range 31) fun n => reached ER (agSendC c n) 0) ∗ (bigSep (Finset.range 31) fun n => reached ER (agRecvC c n) 0))
instance ctx_persistent (K : GSem nD τ sig → ℕ) (c : Dev nD) : BI.Persistent (ctx m K c) := by unfold ctx; infer_instance

theorem ctx_invs (K : GSem nD τ sig → ℕ) (c : Dev nD) : ctx m K c ⊢ invs m K := by
  unfold ctx; iintro ⟨#HI, -⟩; iexact HI
theorem ctx_rs (K : GSem nD τ sig → ℕ) (c : Dev nD) {n : ℕ} (hn : n < 31) : ctx m K c ⊢ reached ER (rsSendC c n) 0 := by
  unfold ctx; iintro ⟨-, -, -, #H, -⟩
  iapply (show (bigSep (Finset.range 31) fun d => (reached ER (rsSendC c d) 0 : sProp 𝕄)) ⊢ reached ER (rsSendC c n) 0 from
    bigSep_elim (Finset.mem_range.mpr hn)); iexact H
theorem ctx_ag (K : GSem nD τ sig → ℕ) (c : Dev nD) {n : ℕ} (hn : n < 31) : ctx m K c ⊢ reached ER (agSendC c n) 0 := by
  unfold ctx; iintro ⟨-, -, -, -, -, #H, -⟩
  iapply (show (bigSep (Finset.range 31) fun d => (reached ER (agSendC c d) 0 : sProp 𝕄)) ⊢ reached ER (agSendC c n) 0 from
    bigSep_elim (Finset.mem_range.mpr hn)); iexact H

/-- The device owing `O`, whatever it has waited for. -/
@[irreducible] def ow (c : Dev nD) (O : CellTallies nD τ sig Unit) : sProp 𝕄 := iprop(∃ W, owes (c : Thread nD τ) O W)

/-- Before signal `n`. -/
@[irreducible] def SB (c : Dev nD) (n : ℕ) : sProp 𝕄 :=
  iprop(ow c (Oag c 0 + Ors c 0 + Obar c n)
    ∗ bigSep (Finset.Ico n 31) fun k => iprop(dutyTok ER (barCell (peer c k)) 0 (30 - k) ∗ rsAny c (30 - k) ∗ agAny c (30 - k)))

/-- Before send `n` of the first exchange; of the second. -/
@[irreducible] def SR (c : Dev nD) (n : ℕ) : sProp 𝕄 :=
  iprop(ow c (Oag c 0 + Ors c n)
    ∗ (bigSep (Finset.Ico n 31) fun k => iprop((dutyTok ER (rsSendC c k) 0 0 ∗ dutyTok ER (rsRecvC (peer c k) k) 0 0)
        ∗ (rsAny (peer c k) k ∗ reached ER (rsRecvC (peer c k) k) 0) ∗ accPts m c k))
    ∗ bigSep (Finset.range n) fun k => cred (tallyAt (rsSendC c k) () N))
@[irreducible] def SG (c : Dev nD) (n : ℕ) : sProp 𝕄 :=
  iprop(ow c (Oag c n)
    ∗ (bigSep (Finset.Ico n 31) fun k => iprop((dutyTok ER (agSendC c k) 0 0 ∗ dutyTok ER (agRecvC (peer c k) k) 0 0)
        ∗ (agAny (peer c k) k ∗ reached ER (agRecvC (peer c k) k) 0) ∗ redPts m c k))
    ∗ bigSep (Finset.range n) fun k => cred (tallyAt (agSendC c k) () N))

/-- A family of the device's own cells of which the first `n` have been waited for: `P k` is what the `k`-th wait gave. -/
@[irreducible] def Wt (s : ℕ → DmaSem sig) (P : ℕ → sProp 𝕄) (c : Dev nD) (n : ℕ) : sProp 𝕄 :=
  iprop((bigSep (Finset.Ico n 31) fun k => iprop(cred (tallyAt (((c : Thread nD τ), SemLoc.dma (s k)) : GSem nD τ sig) () N) ∗ atPos ER (((c : Thread nD τ), SemLoc.dma (s k)) : GSem nD τ sig) 0 ∅ 0))
    ∗ bigSep (Finset.range n) fun k => iprop(P k ∗ atPos ER (((c : Thread nD τ), SemLoc.dma (s k)) : GSem nD τ sig) 1 ∅ 0))

abbrev wpk (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The steps -/

section Steps

variable {α : Type} {K : GSem nD τ sig → ℕ} {c : Dev nD}

/-- A part of the program by itself, then what follows it. -/
theorem wp_part {Q : α → sProp 𝕄} {β : Type} {P : sProp 𝕄} {p : Prog (TpuEff nD τ sig (Elt F) Λ₀ .tc) β} {k : β → Prog (TpuEff nD τ sig (Elt F) Λ₀ .tc) α}
    (h : ∀ Q' : β → sProp 𝕄, (Q' = fun r => wpk c (k r) Q) → P ⊢ wpk c p Q') : P ⊢ wpk c (p >>= k) Q := by
  rw [wpk, wp_bind]; exact h _ rfl

theorem step_ret {Q : α → sProp 𝕄} {P : sProp 𝕄} {a : α} (h : P ⊢ Q a) : P ⊢ wpk c (.ret a) Q := by
  rw [wpk, wp_ret]
  exact h.trans (by iintro H; imodintro; iexact H)

/-- A load out of a buffer that the state holds. -/
theorem step_load {Q : α → sProp 𝕄} {P : sProp 𝕄} {s : Shape} {e : EltTy} {M : Memref sig .tc .vmem s e} {r : LoadRect s} {hl : M.view.LoadsAt r}
    {k : (r.shape.Idx → Elt F e) → Prog (TpuEff nD τ sig (Elt F) Λ₀ .tc) α}
    {S : Finset (Idx (M.view.loc (c : Thread nD τ)))} {q : PosShare TreeShare} {f : Buf (Elt F) (M.view.loc (c : Thread nD τ))}
    {v : r.shape.Idx → Elt F e} (hS : M.view.setOn r.set ⊆ S) (hv : M.view.readAt (Elt F) r f = v)
    (hacc : P ⊢ iprop((M.view.loc (c : Thread nD τ) ↦[S]{q} f) ∗ ((M.view.loc (c : Thread nD τ) ↦[S]{q} f) -∗ P)))
    (next : P ⊢ wpk c (k v) Q) : P ⊢ wpk c (.op (.load M r hl) k) Q := by
  refine hacc.trans ?_
  iintro ⟨Hp, Hk⟩
  iapply (wp_load 𝒱₀ (c : Thread nD τ) none Set.univ hS) $$ Hp
  iintro Hp
  rw [hv]
  iapply next
  iapply Hk $$ Hp

/-- Signalling the barrier of the device that step `n` sends to, handing over the slots that it will write. -/
theorem step_signal {Q : α → sProp 𝕄} {G : sProp 𝕄} {n : ℕ} {c' : Dev nD} {sem : Sem sig} {z : ℤ} {k : PUnit → Prog (TpuEff nD τ sig (Elt F) Λ₀ .tc) α}
    (hn : n < 31) (hc : c' = peer c n) (hs : sem = barS) (hz : z = ((1 : ℕ) : ℤ))
    (next : iprop(ctx m K c ∗ G ∗ SB c (n + 1)) ⊢ wpk c (k ⟨⟩) Q) :
    iprop(ctx m K c ∗ G ∗ SB c n) ⊢ wpk c (.op (.semSignal (c' : Thread nD τ) sem z) k) Q := by
  subst hc hs hz
  have hO : Oag c 0 + Ors c 0 + Obar c n = Oag c 0 + Ors c 0 + Obar c (n + 1) + tallyAt (barCell (peer c n)) () 1 := by
    rw [Obar_succ c hn]; simp only [add_assoc]
  have hmem : 30 - n ∈ (Rd m).duties (barCell (peer c n)) 0 := by rw [duties_bar, Finset.mem_range]; omega
  unfold SB ow
  rw [bigSep_Ico_succ_bot hn]
  iintro ⟨#HC, HG, ⟨%W, HO⟩, ⟨Ht, Hr, Ha⟩, Hrest⟩
  unfold ctx
  ihave HC2 := HC
  icases HC2 with ⟨#HI, #Hlev, #Hb, #H1, #H2, #H3, #H4⟩
  ihave #HIp := (invs_get m (K := K) (mem_barCell (peer c n))) $$ HI
  ihave #Hbp := (show (bigSep Finset.univ fun d : Dev nD => (reached ER (barCell d) 0 : sProp 𝕄)) ⊢ reached ER (barCell (peer c n)) 0 from
    bigSep_elim (Finset.mem_univ _)) $$ Hb
  ihave #H2p := (show (bigSep (Finset.range 31) fun d => (reached ER (rsRecvC c d) 0 : sProp 𝕄)) ⊢ reached ER (rsRecvC c (30 - n)) 0 from
    bigSep_elim (Finset.mem_range.mpr (by omega))) $$ H2
  ihave #H4p := (show (bigSep (Finset.range 31) fun d => (reached ER (agRecvC c d) 0 : sProp 𝕄)) ⊢ reached ER (agRecvC c (30 - n)) 0 from
    bigSep_elim (Finset.mem_range.mpr (by omega))) $$ H4
  iapply (Rounds.wp_signal 𝒱₀ ER (Rd m) (c : Thread nD τ) none (dst := (peer c n : Thread nD τ)) (sem := barS) (r := 0) (d := 30 - n)
      (κ := K (barCell (peer c n))) hmem rfl () (Oag c 0 + Ors c 0 + Obar c (n + 1)) hO) $$ [HO Ht Hr Ha]
  · isplitr; · iexact HIp
    isplitl [HO]; · iexact HO
    isplitl [Ht]; · iexact Ht
    isplitl [Hr Ha]
    · rw [pay_bar]; unfold barPay; rw [peer_rev c hn]
      isplitl [Hr]; · iexact Hr
      isplitl [Ha]; · iexact Ha
      isplitr; · iexact H2p
      iexact H4p
    · iexact Hbp
  iintro HO
  iapply next
  unfold ctx SB ow
  isplitr
  · isplitr; · iexact HI
    isplitr; · iexact Hlev
    isplitr; · iexact Hb
    isplitr; · iexact H1
    isplitr; · iexact H2
    isplitr; · iexact H3
    iexact H4
  isplitl [HG]; · iexact HG
  isplitl [HO]; · iexists W; iexact HO
  iexact Hrest

/-- Waiting for a whole round of one of the device's own transfer cells. -/
theorem step_wait {Q : α → sProp 𝕄} {G : sProp 𝕄} {s : ℕ → DmaSem sig} {P : ℕ → sProp 𝕄} {n : ℕ} {O : CellTallies nD τ sig Unit}
    {sp sp' : Space} {sh sh' : Shape} {e e' : EltTy} {sem : DmaSem sig} {src : Memref sig .tc sp' sh' e'} {κ' : Kind} {dst : Memref sig κ' sp sh e}
    {hsrc : src.view.WordExact} {hdst : dst.view.WordExact} {k : PUnit → Prog (TpuEff nD τ sig (Elt F) Λ₀ .tc) α}
    (hn : n < 31) (h6 : 6 ≤ (s n).val) (hP : (Rd m).payload (((c : Thread nD τ), SemLoc.dma (s n)) : GSem nD τ sig) 0 0 = P n)
    (hW : (levAts L lv : sProp 𝕄) ⊢ MayWait (c : Thread nD τ) (.dma (s n)) () O)
    (hs : sem = s n) (hd : dst.view.dmaCredit = N)
    (next : iprop(ctx m K c ∗ G ∗ ow c O ∗ Wt s P c (n + 1)) ⊢ wpk c (k ⟨⟩) Q) :
    iprop(ctx m K c ∗ G ∗ ow c O ∗ Wt s P c n) ⊢ wpk c (.op (.waitDma2 sem src dst hsrc hdst) k) Q := by
  subst hs
  unfold Wt ow
  rw [bigSep_Ico_succ_bot hn]
  iintro ⟨#HC, HG, ⟨%W, HO⟩, ⟨⟨Hcr, Hat⟩, Hrest⟩, Hdone⟩
  unfold ctx
  ihave HC2 := HC
  icases HC2 with ⟨#HI, #Hlev, -⟩
  ihave #HIp := (invs_get m (K := K) (mem_dmaCell c (s n) h6)) $$ HI
  iapply (Rounds.wp_wait_rest_token 𝒱₀ ER (Rd m) (c : Thread nD τ) none (κ := K ((c : Thread nD τ), SemLoc.dma (s n)))
      (wpE_waitDma2_eq 𝒱₀ (c : Thread nD τ) none Set.univ) (Set.mem_univ _) () (O := O) (W := W) (R := 0) (m := 0) (T := ∅)
      ((Nat.zero_add _).trans (hd.trans (expect_dma m c (s n) h6).symm))) $$ [Hcr HO Hat]
  · isplitr; · iexact HIp
    isplitl [Hcr]; · rw [hd]; iexact Hcr
    isplitl [HO]; · iexact HO
    isplitr; · iapply hW; iexact Hlev
    iexact Hat
  iintro ⟨HO, Hat, -, Hpay⟩
  ihave HP := (Entails.of_eq ((rest_dma m c (s n) h6).trans hP)) $$ Hpay
  iapply next
  unfold Wt ow ctx
  rw [bigSep_range_succ n]
  isplitr; · iexact HC
  isplitl [HG]; · iexact HG
  isplitl [HO]; · iexists _; iexact HO
  isplitl [Hrest]; · iexact Hrest
  isplitl [HP Hat]
  · isplitl [HP] <;> iassumption
  iexact Hdone

/-- One send of either exchange: the source goes with the send cell's duty, the slot on the receiver with its receive cell's. -/
theorem step_send {Q : α → sProp 𝕄} {G R₁ R₂ : sProp 𝕄} {c' : Dev nD} {src dst : Memref sig .tc .vmem S32x1024 .bf16} {sS sR : DmaSem sig} {hsc : dst.view.ref.isScScratch = false}
    {hsrc : src.view.WordExact} {hdst : dst.view.WordExact} {hsem : DmaTarget.Typed .vmem (SemLoc.dma sR) (.remote (c' : Thread nD τ) dst (.dma sS) hsc)}
    {k : PUnit → Prog (TpuEff nD τ sig (Elt F) Λ₀ .tc) α} {q : PosShare TreeShare} {fs : Buf (Elt F) (src.view.loc (c : Thread nD τ))}
    {O₁ O₂ : CellTallies nD τ sig Unit} (h6 : 6 ≤ sS.val) (h6' : 6 ≤ sR.val) (hN : dst.view.dmaCredit = N)
    (hO : O₁ = O₂ + tallyAt (((c' : Thread nD τ), SemLoc.dma sR) : GSem nD τ sig) () N)
    (hpay₁ : (src.view.loc (c : Thread nD τ) ↦[src.view.set]{q} fs) ⊢ (Rd m).payload (((c : Thread nD τ), SemLoc.dma sS) : GSem nD τ sig) 0 0)
    (hpay₂ : ∀ fd, (dst.view.loc (c' : Thread nD τ) ↦[dst.view.set]{fullShare} (dst.view.write (Elt F) fd (src.view.read (Elt F) fs) Finset.univ))
      ⊢ (Rd m).payload (((c' : Thread nD τ), SemLoc.dma sR) : GSem nD τ sig) 0 0)
    (hr : ctx m K c ⊢ reached ER (((c : Thread nD τ), SemLoc.dma sS) : GSem nD τ sig) 0)
    (next : iprop(ctx m K c ∗ G ∗ ow c O₂ ∗ cred (tallyAt (((c : Thread nD τ), SemLoc.dma sS) : GSem nD τ sig) () N) ∗ R₁ ∗ R₂) ⊢ wpk c (k ⟨⟩) Q) :
    iprop(ctx m K c ∗ G ∗ ow c O₁
        ∗ (((dutyTok ER (((c : Thread nD τ), SemLoc.dma sS) : GSem nD τ sig) 0 0 ∗ dutyTok ER (((c' : Thread nD τ), SemLoc.dma sR) : GSem nD τ sig) 0 0)
          ∗ ((∃ fd, dst.view.loc (c' : Thread nD τ) ↦[dst.view.set]{fullShare} fd) ∗ reached ER (((c' : Thread nD τ), SemLoc.dma sR) : GSem nD τ sig) 0)
          ∗ (src.view.loc (c : Thread nD τ) ↦[src.view.set]{q} fs)) ∗ R₁) ∗ R₂)
      ⊢ wpk c (.op (.enqueueDma src (.remote (c' : Thread nD τ) dst (.dma sS) hsc) (.dma sR) hsrc hdst hsem) k) Q := by
  unfold ow
  iintro ⟨#HC, HG, ⟨%W, HO⟩, ⟨⟨⟨Ht1, Ht2⟩, ⟨⟨%fd, Hd⟩, #Hr2⟩, Hs⟩, HR1⟩, HR2⟩
  ihave #Hr1 := hr $$ HC
  ihave #HI1 := ((ctx_invs m K c).trans (invs_get m (K := K) (mem_dmaCell c sS h6))) $$ HC
  ihave #HI2 := ((ctx_invs m K c).trans (invs_get m (K := K) (mem_dmaCell c' sR h6'))) $$ HC
  iapply (Rounds.wp_send_pointsTo 𝒱₀ ER (Rd m) (c : Thread nD τ) none (c' := (c' : Thread nD τ)) (src := src) (dst := dst)
      (sS := .dma sS) (sem := .dma sR) (q := q) (fs := fs) (κ₁ := K ((c : Thread nD τ), .dma sS)) (κ₂ := K ((c' : Thread nD τ), .dma sR))
      (r₁ := 0) (r₂ := 0) (d₁ := 0) (d₂ := 0) (fd := fd) (mem_dma m c sS h6) (mem_dma m c' sR h6')
      () () N hN rfl rfl O₂ hO (W := W) hpay₁ (hpay₂ fd)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply next
  unfold ow
  isplitr; · iexact HC
  isplitl [HG]; · iexact HG
  isplitl [HO]; · iexists W; iexact HO
  isplitl [Hc]; · iexact Hc
  isplitl [HR1] <;> iassumption

end Steps

end Cert.Attn

end
-- ==== Proof.Sends.lean ====
/-
The sends of the two exchanges.
-/
module

public import proofs.«01_k».proof.Proof.Steps

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Steps

variable {α : Type} {K : GSem nD τ sig → ℕ} {c : Dev nD}

/-- Send `n` of the first exchange. -/
theorem step_rs {Q : α → sProp 𝕄} {G : sProp 𝕄} {n : ℕ} {c' : Dev nD} {src dst : Memref sig .tc .vmem S32x1024 .bf16} {sS sR : DmaSem sig} {hsc : dst.view.ref.isScScratch = false}
    {hsrc : src.view.WordExact} {hdst : dst.view.WordExact} {hsem : DmaTarget.Typed .vmem (SemLoc.dma sR) (.remote (c' : Thread nD τ) dst (.dma sS) hsc)}
    {k : PUnit → Prog (TpuEff nD τ sig (Elt F) Λ₀ .tc) α}
    (hn : n < 31) (hc : c' = peer c n) (h1 : src = accSl c n) (h2 : dst = rsSl n) (h3 : sS = rsSendS n) (h4 : sR = rsRecvS n)
    (next : iprop(ctx m K c ∗ G ∗ SR m c (n + 1)) ⊢ wpk c (k ⟨⟩) Q) :
    iprop(ctx m K c ∗ G ∗ SR m c n)
      ⊢ wpk c (.op (.enqueueDma src (.remote (c' : Thread nD τ) dst (.dma sS) hsc) (.dma sR) hsrc hdst hsem) k) Q := by
  subst hc h1 h2 h3 h4
  unfold SR
  rw [bigSep_Ico_succ_bot hn]
  refine step_send m (c' := peer c n) (src := accSl c n) (dst := rsSl n) (sS := rsSendS n) (sR := rsRecvS n) (q := fullShare) (fs := accb m c)
    (O₂ := Oag c 0 + Ors c (n + 1)) (six_rsSend n) (six_rsRecv n) (credit_rs n) (by rw [Ors_succ c hn, add_assoc]) (Entails.of_eq (pay_rsSend m c hn).symm) (fun fd => ?_) ?_ ?_
  · rw [pay_rsRecv m (peer c n) hn]; unfold rsLand
    iintro H
    iexists _; isplitl [H]; · iexact H
    ipureintro
    rw [View.read_write_univ]; unfold rsV; rw [back_peer c hn]
  · exact ctx_rs m K c hn
  · refine BIBase.Entails.trans ?_ next
    unfold SR; rw [bigSep_range_succ n]
    iintro ⟨HC, HG, HO, Hc, HR1, HR2⟩
    isplitl [HC]; · iexact HC
    isplitl [HG]; · iexact HG
    isplitl [HO]; · iexact HO
    isplitl [HR1]; · iexact HR1
    isplitl [Hc] <;> iassumption

/-- Send `n` of the second exchange. -/
theorem step_ag {Q : α → sProp 𝕄} {G : sProp 𝕄} {n : ℕ} {c' : Dev nD} {src dst : Memref sig .tc .vmem S32x1024 .bf16} {sS sR : DmaSem sig} {hsc : dst.view.ref.isScScratch = false}
    {hsrc : src.view.WordExact} {hdst : dst.view.WordExact} {hsem : DmaTarget.Typed .vmem (SemLoc.dma sR) (.remote (c' : Thread nD τ) dst (.dma sS) hsc)}
    {k : PUnit → Prog (TpuEff nD τ sig (Elt F) Λ₀ .tc) α}
    (hn : n < 31) (hc : c' = peer c n) (h1 : src = redMr) (h2 : dst = agSl n) (h3 : sS = agSendS n) (h4 : sR = agRecvS n)
    (next : iprop(ctx m K c ∗ G ∗ SG m c (n + 1)) ⊢ wpk c (k ⟨⟩) Q) :
    iprop(ctx m K c ∗ G ∗ SG m c n)
      ⊢ wpk c (.op (.enqueueDma src (.remote (c' : Thread nD τ) dst (.dma sS) hsc) (.dma sR) hsrc hdst hsem) k) Q := by
  subst hc h1 h2 h3 h4
  unfold SG
  rw [bigSep_Ico_succ_bot hn]
  refine step_send m (c' := peer c n) (src := redMr) (dst := agSl n) (sS := agSendS n) (sR := agRecvS n) (q := Transfers.shareTokN fullShare n)
    (fs := redb m c) (O₂ := Oag c (n + 1)) (six_agSend n) (six_agRecv n) (credit_ag n) (Oag_succ c hn) (Entails.of_eq (pay_agSend m c hn).symm) (fun fd => ?_) ?_ ?_
  · rw [pay_agRecv m (peer c n) hn]; unfold agLand
    iintro H
    iexists _; isplitl [H]; · iexact H
    ipureintro
    rw [View.read_write_univ, back_peer c hn]; rfl
  · exact ctx_ag m K c hn
  · refine BIBase.Entails.trans ?_ next
    unfold SG; rw [bigSep_range_succ n]
    iintro ⟨HC, HG, HO, Hc, HR1, HR2⟩
    isplitl [HC]; · iexact HC
    isplitl [HG]; · iexact HG
    isplitl [HO]; · iexact HO
    isplitl [HR1]; · iexact HR1
    isplitl [Hc] <;> iassumption

end Steps

end Cert.Attn

end
-- ==== Proof.Phases.lean ====
/-
The phases of the kernel: computing, summing what landed, gathering the sums.
-/
module

public import proofs.«01_k».proof.Proof.Sends

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Loads and stores of buffers that the state holds -/

/-- A buffer whole, at contents `f`. -/
abbrev wh (c : Dev nD) (r : Ref sig .tc) (f : Buf (Elt F) ((c : Thread nD τ).loc r)) : sProp 𝕄 := ((c : Thread nD τ).loc r) ↦{fullShare} f

theorem off2_eq : ∀ c : Dev nD, k0_off2 c = ![32 * c.val, 0] := by
  decide +kernel

section Steps

variable {α : Type} {K : GSem nD τ sig → ℕ} {c : Dev nD}

/-- Something read in the last part of a state is read in the state. -/
theorem acc_frame {A B G S : sProp 𝕄} (h : S ⊢ iprop(B ∗ (B -∗ S))) : iprop(A ∗ G ∗ S) ⊢ iprop(B ∗ (B -∗ (A ∗ G ∗ S))) := by
  iintro ⟨HA, HG, HS⟩
  ihave H := h $$ HS
  icases H with ⟨HB, Hk⟩
  isplitl [HB]; · iexact HB
  iintro HB
  isplitl [HA]; · iexact HA
  isplitl [HG]; · iexact HG
  iapply Hk $$ HB

/-- A load whose value is not used, out of a buffer that the state holds at some contents. -/
theorem step_peek {Q : α → sProp 𝕄} {P : sProp 𝕄} {s : Shape} {e : EltTy} {M : Memref sig .tc .vmem s e} {r : LoadRect s} {hl : M.view.LoadsAt r}
    {k : (r.shape.Idx → Elt F e) → Prog (TpuEff nD τ sig (Elt F) Λ₀ .tc) α}
    (hacc : P ⊢ iprop(∃ f, (M.view.loc (c : Thread nD τ) ↦{fullShare} f) ∗ ((M.view.loc (c : Thread nD τ) ↦{fullShare} f) -∗ P)))
    (next : ∀ v, P ⊢ wpk c (k v) Q) : P ⊢ wpk c (.op (.load M r hl) k) Q := by
  refine hacc.trans ?_
  iintro ⟨%f, Hp, Hk⟩
  iapply (wp_load 𝒱₀ (c : Thread nD τ) none Set.univ (Finset.subset_univ _)) $$ Hp
  iintro Hp
  iapply (next _)
  iapply Hk $$ Hp

/-- A store into a buffer that the state holds whole. -/
theorem step_store {Q : α → sProp 𝕄} {P P' : sProp 𝕄} {s : Shape} {e : EltTy} {M : Memref sig .tc .vmem s e} {r : Rect s} {w : r.shape.Idx → Elt F e}
    {hx : (M.access r).Stores Finset.univ} {hm : Finset.univ = Finset.univ ∨ ∀ a, r.stride a = 1}
    {k : PUnit → Prog (TpuEff nD τ sig (Elt F) Λ₀ .tc) α}
    (hacc : P ⊢ iprop(∃ f, ((M.access r).loc (c : Thread nD τ) ↦{fullShare} f)
      ∗ (((M.access r).loc (c : Thread nD τ) ↦{fullShare} ((M.access r).write (Elt F) f w Finset.univ)) -∗ P')))
    (next : P' ⊢ wpk c (k ⟨⟩) Q) : P ⊢ wpk c (.op (.store M r w Finset.univ hx hm) k) Q := by
  refine hacc.trans ?_
  iintro ⟨%f, Hp, Hk⟩
  iapply (wp_store 𝒱₀ (c : Thread nD τ) none Set.univ (Finset.subset_univ _)) $$ Hp
  iintro Hp
  iapply next
  iapply Hk $$ Hp

/-- Asking for the device's own number. -/
theorem step_device {Q : α → sProp 𝕄} {P : sProp 𝕄} {k : Dev nD → Prog (TpuEff nD τ sig (Elt F) Λ₀ .tc) α}
    (next : P ⊢ wpk c (k c) Q) : P ⊢ wpk c (.op .deviceId k) Q := by
  rw [wpk, wp_deviceId]; exact next

/-! ## Before the exchanges -/

/-- The staged arguments. -/
@[irreducible] def ST (c : Dev nD) : sProp 𝕄 :=
  iprop(wh c cc0_stg0_0 (X m c) ∗ wh c cc0_stg1_0 (Wq m c) ∗ wh c cc0_stg2_0 (Wo m c) ∗ wh c cc0_stg3_0 (Wk m c) ∗ wh c cc0_stg4_0 (Wv m c))

/-- The attention scratch, its first `n` blocks done. -/
@[irreducible] def AT (c : Dev nD) (n : ℕ) : sProp 𝕄 := iprop(∃ f, wh c cc0_scratch1 f ∗ ⌜∀ i, blkOf i < n → f i = attn m c i⌝)

/-- A buffer whole, at contents not named. -/
@[irreducible] def anyB (c : Dev nD) (r : Ref sig .tc) : sProp 𝕄 := iprop(∃ f, wh c r f)

theorem ST_0 : ST m c ⊢ iprop(wh c cc0_stg0_0 (X m c) ∗ (wh c cc0_stg0_0 (X m c) -∗ ST m c)) := by
  unfold ST; iintro ⟨H0, H1, H2, H3, H4⟩
  isplitl [H0]; · iexact H0
  iintro H0; isplitl [H0]; · iexact H0
  isplitl [H1]; · iexact H1
  isplitl [H2]; · iexact H2
  isplitl [H3] <;> iassumption
theorem ST_1 : ST m c ⊢ iprop(wh c cc0_stg1_0 (Wq m c) ∗ (wh c cc0_stg1_0 (Wq m c) -∗ ST m c)) := by
  unfold ST; iintro ⟨H0, H1, H2, H3, H4⟩
  isplitl [H1]; · iexact H1
  iintro H1; isplitl [H0]; · iexact H0
  isplitl [H1]; · iexact H1
  isplitl [H2]; · iexact H2
  isplitl [H3] <;> iassumption
theorem ST_2 : ST m c ⊢ iprop(wh c cc0_stg2_0 (Wo m c) ∗ (wh c cc0_stg2_0 (Wo m c) -∗ ST m c)) := by
  unfold ST; iintro ⟨H0, H1, H2, H3, H4⟩
  isplitl [H2]; · iexact H2
  iintro H2; isplitl [H0]; · iexact H0
  isplitl [H1]; · iexact H1
  isplitl [H2]; · iexact H2
  isplitl [H3] <;> iassumption
theorem ST_3 : ST m c ⊢ iprop(wh c cc0_stg3_0 (Wk m c) ∗ (wh c cc0_stg3_0 (Wk m c) -∗ ST m c)) := by
  unfold ST; iintro ⟨H0, H1, H2, H3, H4⟩
  isplitl [H3]; · iexact H3
  iintro H3; isplitl [H0]; · iexact H0
  isplitl [H1]; · iexact H1
  isplitl [H2]; · iexact H2
  isplitl [H3] <;> iassumption
theorem ST_4 : ST m c ⊢ iprop(wh c cc0_stg4_0 (Wv m c) ∗ (wh c cc0_stg4_0 (Wv m c) -∗ ST m c)) := by
  unfold ST; iintro ⟨H0, H1, H2, H3, H4⟩
  isplitl [H4]; · iexact H4
  iintro H4; isplitl [H0]; · iexact H0
  isplitl [H1]; · iexact H1
  isplitl [H2]; · iexact H2
  isplitl [H3] <;> iassumption

theorem zero2 : (![0, 0] : Fin 2 → ℕ) = fun _ => 0 := by decide
theorem zero3 : (![0, 0, 0] : Fin 3 → ℕ) = fun _ => 0 := by decide

/-- Something read in the first half of the last part of a state. -/
theorem acc_left {B S T : sProp 𝕄} (h : S ⊢ iprop(B ∗ (B -∗ S))) : iprop(S ∗ T) ⊢ iprop(B ∗ (B -∗ (S ∗ T))) := by
  iintro ⟨HS, HT⟩
  ihave H := h $$ HS
  icases H with ⟨HB, Hk⟩
  isplitl [HB]; · iexact HB
  iintro HB
  isplitr [HT]
  · iapply Hk $$ HB
  · iexact HT
theorem acc_right {B S T : sProp 𝕄} (h : T ⊢ iprop(B ∗ (B -∗ T))) : iprop(S ∗ T) ⊢ iprop(B ∗ (B -∗ (S ∗ T))) := by
  iintro ⟨HS, HT⟩
  ihave H := h $$ HT
  icases H with ⟨HB, Hk⟩
  isplitl [HB]; · iexact HB
  iintro HB
  isplitl [HS]; · iexact HS
  iapply Hk $$ HB

/-- What the first phase computes in: the staged arguments and the attention scratch, its first `n` blocks done. -/
abbrev SA (c : Dev nD) (n : ℕ) : sProp 𝕄 := iprop(ST m c ∗ AT m c n)

theorem AT_32 : AT m c 32 ⊢ iprop(wh c cc0_scratch1 (attn m c) ∗ (wh c cc0_scratch1 (attn m c) -∗ AT m c 32)) := by
  unfold AT; iintro ⟨%f, H, %hf⟩
  obtain rfl : f = attn m c := funext fun i => hf i (by
    have h0 : (i 0).val < 1024 := (i 0).isLt
    have h1 : (i 1).val < 1024 := (i 1).isLt
    unfold blkOf; omega)
  isplitl [H]; · iexact H
  iintro H; iexists _; isplitl [H]; · iexact H
  ipureintro; exact fun i _ => rfl

/-- The load before each store into the attention scratch. -/
theorem step_attPeek {Q : α → sProp 𝕄} {G : sProp 𝕄} {n : ℕ} {r : LoadRect S1024x1024} {hl : attM.view.LoadsAt r}
    {k : (r.shape.Idx → Elt F .f32) → Prog (TpuEff nD τ sig (Elt F) Λ₀ .tc) α}
    (next : ∀ v, iprop(ctx m K c ∗ G ∗ SA m c n) ⊢ wpk c (k v) Q) : iprop(ctx m K c ∗ G ∗ SA m c n) ⊢ wpk c (.op (.load attM r hl) k) Q := by
  refine step_peek ?_ next
  unfold SA AT
  iintro ⟨HC, HG, HS, ⟨%f, H, %hf⟩⟩
  iexists f; isplitl [H]; · iexact H
  iintro H
  isplitl [HC]; · iexact HC
  isplitl [HG]; · iexact HG
  isplitl [HS]; · iexact HS
  iexists f; isplitl [H]; · iexact H
  ipureintro; exact hf

/-- Block `n` of the attention scratch stored. -/
theorem step_attStore {Q : α → sProp 𝕄} {G : sProp 𝕄} {n : ℕ} {off : Fin 2 → ℕ} {inb : ∀ a, off a + S256x128.size a ≤ S1024x1024.size a}
    {w : FVec F S256x128 .f32} {hx : (attM.access (Rect.unit (s := S1024x1024) off S256x128.size inb)).Stores Finset.univ}
    {hm : (Finset.univ : Finset (Rect.unit (s := S1024x1024) off S256x128.size inb).shape.Idx) = Finset.univ ∨ ∀ a, (Rect.unit (s := S1024x1024) off S256x128.size inb).stride a = 1}
    {k : PUnit → Prog (TpuEff nD τ sig (Elt F) Λ₀ .tc) α} (hn : n < 32) (hoff : off = blkOff n) (hw : w = blkC m c n)
    (next : iprop(ctx m K c ∗ G ∗ SA m c (n + 1)) ⊢ wpk c (k ⟨⟩) Q) :
    iprop(ctx m K c ∗ G ∗ SA m c n) ⊢ wpk c (.op (.store attM (Rect.unit (s := S1024x1024) off S256x128.size inb) w Finset.univ hx hm) k) Q := by
  subst hoff hw
  refine step_store (P' := iprop(ctx m K c ∗ G ∗ SA m c (n + 1))) ?_ next
  unfold SA AT
  iintro ⟨HC, HG, HS, ⟨%f, H, %hf⟩⟩
  iexists f; isplitl [H]; · iexact H
  iintro H
  isplitl [HC]; · iexact HC
  isplitl [HG]; · iexact HG
  isplitl [HS]; · iexact HS
  iexists _; isplitl [H]; · iexact H
  ipureintro; exact att_write m c hn f hf

/-- The load before a store into a buffer held at contents not named. -/
theorem any_peek (r : Ref sig .tc) {A G S : sProp 𝕄} : iprop(A ∗ (anyB c r ∗ G) ∗ S)
    ⊢ iprop(∃ f, wh c r f ∗ (wh c r f -∗ (A ∗ (anyB c r ∗ G) ∗ S))) := by
  unfold anyB
  iintro ⟨HC, ⟨⟨%f, H⟩, HG⟩, HS⟩
  iexists f; isplitl [H]; · iexact H
  iintro H
  isplitl [HC]; · iexact HC
  isplitl [H HG]
  · isplitl [H]; · iexists f; iexact H
    iexact HG
  iexact HS
/-- A store that fills such a buffer; its holding goes behind the rest. -/
theorem any_store (r : Ref sig .tc) {A B G S : sProp 𝕄} {w : Buf (Elt F) ((c : Thread nD τ).loc r) → Buf (Elt F) ((c : Thread nD τ).loc r)}
    {g : Buf (Elt F) ((c : Thread nD τ).loc r)} (hw : ∀ f, w f = g) : iprop(A ∗ (anyB c r ∗ (B ∗ G)) ∗ S)
    ⊢ iprop(∃ f, wh c r f ∗ (wh c r (w f) -∗ (A ∗ (B ∗ (G ∗ wh c r g)) ∗ S))) := by
  unfold anyB
  iintro ⟨HC, ⟨⟨%f, H⟩, HB, HG⟩, HS⟩
  iexists f; isplitl [H]; · iexact H
  iintro H
  rw [hw f]
  isplitl [HC]; · iexact HC
  isplitl [H HB HG]
  · isplitl [HB]; · iexact HB
    isplitl [HG] <;> iassumption
  iexact HS

/-! ## The sums -/

/-- Loading slot `n` of the first exchange after its wait: what landed. -/
theorem step_slotRs {Q : α → sProp 𝕄} {G : sProp 𝕄} {n : ℕ} {O : CellTallies nD τ sig Unit} {off : Fin 3 → ℕ} {inb : ∀ a, off a + S1x32x1024.size a ≤ S31x32x1024.size a}
    {hl : rsM.view.LoadsAt (Rect.unit (s := S31x32x1024) off S1x32x1024.size inb).toLoadRect}
    {k : Vec F S1x32x1024 .bf16 → Prog (TpuEff nD τ sig (Elt F) Λ₀ .tc) α} (hoff : off = ![30 - n, 0, 0])
    (next : iprop(ctx m K c ∗ G ∗ ow c O ∗ Wt rsRecvS (rsLand m c) c (n + 1)) ⊢ wpk c (k (unsq (rsV m c n))) Q) :
    iprop(ctx m K c ∗ G ∗ ow c O ∗ Wt rsRecvS (rsLand m c) c (n + 1))
      ⊢ wpk c (.op (.load rsM (Rect.unit (s := S31x32x1024) off S1x32x1024.size inb).toLoadRect hl) k) Q := by
  subst hoff
  unfold Wt at next ⊢
  rw [bigSep_range_succ n] at next ⊢
  unfold rsLand at next ⊢
  iintro ⟨HC, HG, HO, HR, ⟨⟨%f, H, %hf⟩, Hat⟩, Hd⟩
  iapply (wp_load 𝒱₀ (c : Thread nD τ) none Set.univ (m := rsM) (S := (rsSl n).view.set) (by
    rw [View.set_reshape, View.set_slice]; exact Finset.Subset.refl _)) $$ H
  iintro H
  rw [slot_readRs n f, hf]
  iapply next
  isplitl [HC]; · iexact HC
  isplitl [HG]; · iexact HG
  isplitl [HO]; · iexact HO
  isplitl [HR]; · iexact HR
  isplitr [Hd]
  · isplitl [H]
    · iexists f; isplitl [H]; · iexact H
      ipureintro; exact hf
    iexact Hat
  iexact Hd

/-- The result as far as it is right: on the device's own rows, and on those that the first `n` steps brought. -/
@[irreducible] def OUTS (c : Dev nD) (n : ℕ) : sProp 𝕄 :=
  iprop(∃ f, wh c cc0_stg5_0 f ∗ ⌜∀ i : S1024x1024.Idx, ((i 0).val / 32 = c.val ∨ ∃ k < n, (i 0).val / 32 = (back c k).val) → f i = OUT m c i⌝)

/-- The state while the second exchange lands: how many landings, stores, and sends' ends have been waited for. -/
@[irreducible] def SF (c : Dev nD) (a b d e : ℕ) : sProp 𝕄 :=
  iprop(ow c 0 ∗ Wt agRecvS (agLand m c) c a ∗ OUTS m c b ∗ Wt rsSendS (accPts m c) c d ∗ Wt agSendS (redPts m c) c e)

/-- Waiting, owing nothing. -/
theorem free_wait (c : Dev nD) (s : SemLoc sig) : (levAts L lv : sProp 𝕄) ⊢ MayWait (c : Thread nD τ) s () 0 := by
  rw [MayWait_zero]; iintro -; iempintro

section Waits

variable {a b d e : ℕ} {sp sp' : Space} {sh sh' : Shape} {et et' : EltTy} {sem : DmaSem sig}
  {src : Memref sig .tc sp' sh' et'} {κ' : Kind} {dst : Memref sig κ' sp sh et} {hsrc : src.view.WordExact} {hdst : dst.view.WordExact}
  {k : PUnit → Prog (TpuEff nD τ sig (Elt F) Λ₀ .tc) α}

theorem step_waitRs {Q : α → sProp 𝕄} {G : sProp 𝕄} {n : ℕ}  (hn : n < 31) (hs : sem = rsRecvS n) (hd : dst.view.dmaCredit = N)
    (next : iprop(ctx m K c ∗ G ∗ ow c (Oag c 0) ∗ Wt rsRecvS (rsLand m c) c (n + 1)) ⊢ wpk c (k ⟨⟩) Q) :
    iprop(ctx m K c ∗ G ∗ ow c (Oag c 0) ∗ Wt rsRecvS (rsLand m c) c n) ⊢ wpk c (.op (.waitDma2 sem src dst hsrc hdst) k) Q :=
  step_wait m hn (six_rsRecv n) (pay_rsRecv m c hn) (mayWait_rs c n) hs hd next

theorem step_waitAg {Q : α → sProp 𝕄} {G : sProp 𝕄} (hn : a < 31) (hs : sem = agRecvS a) (hd : dst.view.dmaCredit = N)
    (next : iprop(ctx m K c ∗ G ∗ SF m c (a + 1) b d e) ⊢ wpk c (k ⟨⟩) Q) :
    iprop(ctx m K c ∗ G ∗ SF m c a b d e) ⊢ wpk c (.op (.waitDma2 sem src dst hsrc hdst) k) Q := by
  have h := step_wait (Q := Q) (G := iprop(G ∗ OUTS m c b ∗ Wt rsSendS (accPts m c) c d ∗ Wt agSendS (redPts m c) c e)) (k := k)
    (src := src) (hsrc := hsrc) (hdst := hdst) m hn (six_agRecv a) (pay_agRecv m c hn) (free_wait c _) hs hd (by
      refine BIBase.Entails.trans ?_ next
      unfold SF
      iintro ⟨HC, ⟨HG, H1, H2, H3⟩, HO, HW⟩
      isplitl [HC]; · iexact HC
      isplitl [HG]; · iexact HG
      isplitl [HO]; · iexact HO
      isplitl [HW]; · iexact HW
      isplitl [H1]; · iexact H1
      isplitl [H2] <;> iassumption)
  refine BIBase.Entails.trans ?_ h
  unfold SF
  iintro ⟨HC, HG, HO, HW, H1, H2, H3⟩
  isplitl [HC]; · iexact HC
  isplitr [HO HW]
  · isplitl [HG]; · iexact HG
    isplitl [H1]; · iexact H1
    isplitl [H2] <;> iassumption
  isplitl [HO] <;> iassumption

theorem step_waitRsSend {Q : α → sProp 𝕄} {G : sProp 𝕄} (hn : d < 31) (hs : sem = rsSendS d) (hd : dst.view.dmaCredit = N)
    (next : iprop(ctx m K c ∗ G ∗ SF m c a b (d + 1) e) ⊢ wpk c (k ⟨⟩) Q) :
    iprop(ctx m K c ∗ G ∗ SF m c a b d e) ⊢ wpk c (.op (.waitDma2 sem src dst hsrc hdst) k) Q := by
  have h := step_wait (Q := Q) (G := iprop(G ∗ OUTS m c b ∗ Wt agRecvS (agLand m c) c a ∗ Wt agSendS (redPts m c) c e)) (k := k)
    (src := src) (hsrc := hsrc) (hdst := hdst) m hn (six_rsSend d) (pay_rsSend m c hn) (free_wait c _) hs hd (by
      refine BIBase.Entails.trans ?_ next
      unfold SF
      iintro ⟨HC, ⟨HG, H1, H2, H3⟩, HO, HW⟩
      isplitl [HC]; · iexact HC
      isplitl [HG]; · iexact HG
      isplitl [HO]; · iexact HO
      isplitl [H2]; · iexact H2
      isplitl [H1]; · iexact H1
      isplitl [HW] <;> iassumption)
  refine BIBase.Entails.trans ?_ h
  unfold SF
  iintro ⟨HC, HG, HO, H2, H1, HW, H3⟩
  isplitl [HC]; · iexact HC
  isplitr [HO HW]
  · isplitl [HG]; · iexact HG
    isplitl [H1]; · iexact H1
    isplitl [H2] <;> iassumption
  isplitl [HO] <;> iassumption

theorem step_waitAgSend {Q : α → sProp 𝕄} {G : sProp 𝕄} (hn : e < 31) (hs : sem = agSendS e) (hd : dst.view.dmaCredit = N)
    (next : iprop(ctx m K c ∗ G ∗ SF m c a b d (e + 1)) ⊢ wpk c (k ⟨⟩) Q) :
    iprop(ctx m K c ∗ G ∗ SF m c a b d e) ⊢ wpk c (.op (.waitDma2 sem src dst hsrc hdst) k) Q := by
  have h := step_wait (Q := Q) (G := iprop(G ∗ OUTS m c b ∗ Wt agRecvS (agLand m c) c a ∗ Wt rsSendS (accPts m c) c d)) (k := k)
    (src := src) (hsrc := hsrc) (hdst := hdst) m hn (six_agSend e) (pay_agSend m c hn) (free_wait c _) hs hd (by
      refine BIBase.Entails.trans ?_ next
      unfold SF
      iintro ⟨HC, ⟨HG, H1, H2, H3⟩, HO, HW⟩
      isplitl [HC]; · iexact HC
      isplitl [HG]; · iexact HG
      isplitl [HO]; · iexact HO
      isplitl [H2]; · iexact H2
      isplitl [H1]; · iexact H1
      isplitl [H3] <;> iassumption)
  refine BIBase.Entails.trans ?_ h
  unfold SF
  iintro ⟨HC, HG, HO, H2, H1, H3, HW⟩
  isplitl [HC]; · iexact HC
  isplitr [HO HW]
  · isplitl [HG]; · iexact HG
    isplitl [H1]; · iexact H1
    isplitl [H2] <;> iassumption
  isplitl [HO] <;> iassumption

end Waits

/-- Loading slot `a` of the second exchange after its wait: the rows that came over. -/
theorem step_slotAg {Q : α → sProp 𝕄} {G : sProp 𝕄} {a b d e : ℕ} {off : Fin 3 → ℕ} {inb : ∀ a, off a + S1x32x1024.size a ≤ S31x32x1024.size a}
    {hl : agM.view.LoadsAt (Rect.unit (s := S31x32x1024) off S1x32x1024.size inb).toLoadRect}
    {k : Vec F S1x32x1024 .bf16 → Prog (TpuEff nD τ sig (Elt F) Λ₀ .tc) α} (hoff : off = ![30 - a, 0, 0])
    (next : iprop(ctx m K c ∗ G ∗ SF m c (a + 1) b d e) ⊢ wpk c (k (unsq (redb m (back c a)))) Q) :
    iprop(ctx m K c ∗ G ∗ SF m c (a + 1) b d e)
      ⊢ wpk c (.op (.load agM (Rect.unit (s := S31x32x1024) off S1x32x1024.size inb).toLoadRect hl) k) Q := by
  subst hoff
  unfold SF Wt at next ⊢
  rw [bigSep_range_succ a] at next ⊢
  unfold agLand at next ⊢
  iintro ⟨HC, HG, HO, ⟨HR, ⟨⟨%f, H, %hf⟩, Hat⟩, Hd⟩, HT⟩
  iapply (wp_load 𝒱₀ (c : Thread nD τ) none Set.univ (m := agM) (S := (agSl a).view.set) (by
    rw [View.set_reshape, View.set_slice]; exact Finset.Subset.refl _)) $$ H
  iintro H
  rw [slot_readAg a f, hf]
  iapply next
  isplitl [HC]; · iexact HC
  isplitl [HG]; · iexact HG
  isplitl [HO]; · iexact HO
  isplitr [HT]
  · isplitl [HR]; · iexact HR
    isplitr [Hd]
    · isplitl [H]
      · iexists f; isplitl [H]; · iexact H
        ipureintro; exact hf
      iexact Hat
    iexact Hd
  iexact HT

/-- The load before each store into the result. -/
theorem step_outPeek {Q : α → sProp 𝕄} {G : sProp 𝕄} {a b d e : ℕ} {r : LoadRect S1024x1024} {hl : outM.view.LoadsAt r}
    {k : (r.shape.Idx → Elt F .f32) → Prog (TpuEff nD τ sig (Elt F) Λ₀ .tc) α}
    (next : ∀ v, iprop(ctx m K c ∗ G ∗ SF m c a b d e) ⊢ wpk c (k v) Q) :
    iprop(ctx m K c ∗ G ∗ SF m c a b d e) ⊢ wpk c (.op (.load outM r hl) k) Q := by
  refine step_peek ?_ next
  unfold SF OUTS
  iintro ⟨HC, HG, HO, H1, ⟨%f, H, %hf⟩, H2⟩
  iexists f; isplitl [H]; · iexact H
  iintro H
  isplitl [HC]; · iexact HC
  isplitl [HG]; · iexact HG
  isplitl [HO]; · iexact HO
  isplitl [H1]; · iexact H1
  isplitl [H]
  · iexists f; isplitl [H]; · iexact H
    ipureintro; exact hf
  iexact H2

/-- The rows that came over in step `b` stored into the result. -/
theorem step_outStore {Q : α → sProp 𝕄} {G : sProp 𝕄} {a b d e : ℕ} {off : Fin 2 → ℕ} {inb : ∀ a, off a + S32x1024.size a ≤ S1024x1024.size a}
    {w : Vec F S32x1024 .f32} {hx : (outM.access (Rect.unit (s := S1024x1024) off S32x1024.size inb)).Stores Finset.univ}
    {hm : (Finset.univ : Finset (Rect.unit (s := S1024x1024) off S32x1024.size inb).shape.Idx) = Finset.univ ∨ ∀ a, (Rect.unit (s := S1024x1024) off S32x1024.size inb).stride a = 1}
    {k : PUnit → Prog (TpuEff nD τ sig (Elt F) Λ₀ .tc) α} (hb : b < 31) (hoff : off = ![32 * (back c b).val, 0]) (hw : w = k0_pay84 (unsq (redb m (back c b))))
    (next : iprop(ctx m K c ∗ G ∗ SF m c a (b + 1) d e) ⊢ wpk c (k ⟨⟩) Q) :
    iprop(ctx m K c ∗ G ∗ SF m c a b d e) ⊢ wpk c (.op (.store outM (Rect.unit (s := S1024x1024) off S32x1024.size inb) w Finset.univ hx hm) k) Q := by
  refine step_store (P' := iprop(ctx m K c ∗ G ∗ SF m c a (b + 1) d e)) ?_ next
  unfold SF OUTS
  iintro ⟨HC, HG, HO, H1, ⟨%f, H, %hf⟩, H2⟩
  iexists f; isplitl [H]; · iexact H
  iintro H
  isplitl [HC]; · iexact HC
  isplitl [HG]; · iexact HG
  isplitl [HO]; · iexact HO
  isplitl [H1]; · iexact H1
  isplitl [H]
  · iexists _; isplitl [H]; · iexact H
    ipureintro
    have hne : (back c b).val ≠ c.val := by
      have hc : c.val < 32 := c.isLt
      simp only [back]; omega
    have := out_write m c (back c b) off hoff inb w (fun i hi => by
      subst hw
      unfold OUT
      rw [if_neg (by rw [hi]; exact hne)]
      congr 3
      exact Fin.ext hi) (fun p => p = c.val ∨ ∃ k < b, p = (back c k).val) f hf
    intro i hi
    refine this i ?_
    rcases hi with hi | ⟨j, hj, hi⟩
    · exact .inl (.inl hi)
    · rcases Nat.lt_succ_iff_lt_or_eq.mp hj with hj | rfl
      · exact .inl (.inr ⟨j, hj, hi⟩)
      · exact .inr hi
  iexact H2

/-- The device's own rows stored. -/
theorem own_store {A G S : sProp 𝕄} {inb : ∀ a, (k0_off2 c) a + S32x1024.size a ≤ S1024x1024.size a} {w : Vec F S32x1024 .f32} (hw : w = red m c) :
    iprop(A ∗ (anyB c cc0_stg5_0 ∗ G) ∗ S)
      ⊢ iprop(∃ f, wh c cc0_stg5_0 f ∗ (wh c cc0_stg5_0 ((outM.access (Rect.unit (s := S1024x1024) (k0_off2 c) S32x1024.size inb)).write (Elt F) f w Finset.univ)
          -∗ (A ∗ (G ∗ OUTS m c 0) ∗ S))) := by
  unfold anyB OUTS
  iintro ⟨HC, ⟨⟨%f, H⟩, HG⟩, HS⟩
  iexists f; isplitl [H]; · iexact H
  iintro H
  isplitl [HC]; · iexact HC
  isplitl [H HG]
  · isplitl [HG]; · iexact HG
    iexists _; isplitl [H]; · iexact H
    ipureintro
    intro i hi
    refine out_write m c c (k0_off2 c) (off2_eq c) inb w (fun i hi => by
      subst hw
      unfold OUT
      rw [if_pos hi]) (fun _ => False) f (fun _ h => h.elim) i (.inr ?_)
    rcases hi with hi | ⟨_, h, _⟩
    · exact hi
    · exact absurd h (Nat.not_lt_zero _)
  iexact HS

end Steps

end Cert.Attn

end
-- ==== Proof.Shift.lean ====
/-
How the kernel goes from one phase to the next.
-/
module

public import proofs.«01_k».proof.Proof.Phases
public import Idealize.ShloMosaic.Lib.Ring.FamCut

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What is held through the phases -/

section Shift

variable {K : GSem nD τ sig → ℕ} (c : Dev nD)

/-- The tokens of the duties that the device's sends pay, in either exchange. -/
@[irreducible] def TR : sProp 𝕄 := bigSep (Finset.Ico 0 31) fun k => iprop(dutyTok ER (rsSendC c k) 0 0 ∗ dutyTok ER (rsRecvC (peer c k) k) 0 0)
@[irreducible] def TG : sProp 𝕄 := bigSep (Finset.Ico 0 31) fun k => iprop(dutyTok ER (agSendC c k) 0 0 ∗ dutyTok ER (agRecvC (peer c k) k) 0 0)
/-- The device's place, at the start of the first round, in each cell of a family. -/
@[irreducible] def AtS (s : ℕ → DmaSem sig) : sProp 𝕄 :=
  bigSep (Finset.range 31) fun k => atPos ER (((c : Thread nD τ), SemLoc.dma (s k)) : GSem nD τ sig) 0 ∅ 0
/-- The slots on the other devices that the second exchange writes. -/
@[irreducible] def SLg : sProp 𝕄 := bigSep (Finset.Ico 0 31) fun k => iprop(agAny (peer c k) k ∗ reached ER (agRecvC (peer c k) k) 0)
/-- The device's place in its barrier cell, before and after the wait. -/
@[irreducible] def Bar0 : sProp 𝕄 := iprop(cred (tallyAt (barCell c) () 31) ∗ atPos ER (barCell c) 0 ∅ 0)
@[irreducible] def Bar1 : sProp 𝕄 := atPos ER (barCell c) 1 ∅ 0

/-- What of the buffers is in no piece of them that is handed over. -/
@[irreducible] def slotRest : sProp 𝕄 :=
  iprop((∃ f, ((c : Thread nD τ).loc cc0_scratch3) ↦[Ring.restOf fun n : Fin 31 => (rsSl n).view.set]{fullShare} f)
    ∗ ∃ f, ((c : Thread nD τ).loc cc0_scratch4) ↦[Ring.restOf fun n : Fin 31 => (agSl n).view.set]{fullShare} f)
@[irreducible] def accRest : sProp 𝕄 := iprop(∃ f, ((c : Thread nD τ).loc cc0_scratch2) ↦[Ring.restOf fun n : Fin 31 => (accSl c n).view.set]{fullShare} f)
@[irreducible] def redRest : sProp 𝕄 := ((c : Thread nD τ).loc cc0_scratch5) ↦{Transfers.shareDrop fullShare 31} redb m c

@[irreducible] def REST : sProp 𝕄 :=
  iprop(TR c ∗ TG c ∗ AtS c rsSendS ∗ AtS c agSendS ∗ Wt rsRecvS (rsLand m c) c 0 ∗ Wt agRecvS (agLand m c) c 0
    ∗ anyB c cc0_scratch5 ∗ anyB c cc0_stg5_0 ∗ slotRest c)
@[irreducible] def RX : sProp 𝕄 :=
  iprop(Bar1 c ∗ ow c (Oag c 0 + Ors c 0) ∗ (bigSep (Finset.range 31) fun n => barPay c n) ∗ REST m c)
@[irreducible] def GR : sProp 𝕄 :=
  iprop(Bar1 c ∗ SLg c ∗ TG c ∗ AtS c rsSendS ∗ AtS c agSendS ∗ Wt rsRecvS (rsLand m c) c 0 ∗ Wt agRecvS (agLand m c) c 0
    ∗ anyB c cc0_scratch5 ∗ anyB c cc0_stg5_0 ∗ slotRest c ∗ SA m c 32 ∗ wh c cc0_scratch0 (accf m c) ∗ accRest c)
@[irreducible] def GV : sProp 𝕄 :=
  iprop(Bar1 c ∗ SLg c ∗ TG c ∗ AtS c agSendS ∗ Wt agRecvS (agLand m c) c 0 ∗ Wt rsSendS (accPts m c) c 0 ∗ slotRest c ∗ SA m c 32 ∗ accRest c)
@[irreducible] def GG : sProp 𝕄 :=
  iprop(Bar1 c ∗ AtS c agSendS ∗ Wt agRecvS (agLand m c) c 0 ∗ Wt rsSendS (accPts m c) c 0 ∗ slotRest c ∗ SA m c 32 ∗ accRest c
    ∗ wh c cc0_scratch0 (accf m c) ∗ redRest m c ∗ OUTS m c 0 ∗ Wt rsRecvS (rsLand m c) c 31)
@[irreducible] def GE : sProp 𝕄 :=
  iprop(Bar1 c ∗ slotRest c ∗ SA m c 32 ∗ accRest c ∗ wh c cc0_scratch0 (accf m c) ∗ redRest m c ∗ Wt rsRecvS (rsLand m c) c 31)

/-! ## Cutting the buffers, and joining them -/

/-- A family over the steps, over the same numbers as an index type. -/
theorem fam_fin {n : ℕ} (Φ : ℕ → sProp 𝕄) : bigSep (Finset.univ : Finset (Fin n)) (fun i => Φ i.val) = bigSep (Finset.Ico 0 n) Φ := by
  rw [← Finset.range_eq_Ico, ← Nat.Iio_eq_range, ← Fin.map_valEmbedding_univ, bigSep_map]; rfl

theorem fam_out {n : ℕ} {Ψ : Fin n → sProp 𝕄} {Φ : ℕ → sProp 𝕄} (h : ∀ i, Ψ i ⊢ Φ i.val) : bigSep Finset.univ Ψ ⊢ bigSep (Finset.Ico 0 n) Φ := by
  rw [← fam_fin]; exact bigSep_mono fun i _ => h i
theorem fam_in {n : ℕ} {Ψ : Fin n → sProp 𝕄} {Φ : ℕ → sProp 𝕄} (h : ∀ i, Φ i.val ⊢ Ψ i) : bigSep (Finset.Ico 0 n) Φ ⊢ bigSep Finset.univ Ψ := by
  rw [← fam_fin]; exact bigSep_mono fun i _ => h i

theorem acc_disj (c : Dev nD) (a b : Fin 31) (h : a ≠ b) : Disjoint (accSl c a.val).view.set (accSl c b.val).view.set := by
  rw [Finset.disjoint_left]
  intro i ha hb
  have key : ∀ n : Fin 31, i ∈ (accSl c n.val).view.set → 32 * ((c.val + n.val + 1) % 32) ≤ (i 0).val ∧ (i 0).val < 32 * ((c.val + n.val + 1) % 32) + 32 := by
    intro n hn
    rw [show (accSl c n.val).view.set = _ from View.set_slice_whole _ _, Rect.mem_set_unit] at hn
    have h0 := hn 0
    rw [off1_eq] at h0
    have e : n.val % 31 = n.val := Nat.mod_eq_of_lt n.isLt
    simp only [e] at h0
    exact h0
  have h1 := key a ha
  have h2 := key b hb
  have hc : c.val < 32 := c.isLt
  have := a.isLt; have := b.isLt
  exact h (Fin.ext (by omega))

theorem slot_mem {n : ℕ} {i : S31x32x1024.Idx} (h : i ∈ (slotR n).set) : (i 0).val = 30 - n := by
  rw [Rect.mem_set_unit] at h
  have h0 : 30 - n ≤ (i 0).val ∧ (i 0).val < 30 - n + 1 := h 0
  omega
theorem slot_disj (a b : Fin 31) (h : a ≠ b) : Disjoint (slotR a.val).set (slotR b.val).set := by
  rw [Finset.disjoint_left]
  intro i ha hb
  have h1 := slot_mem ha
  have h2 := slot_mem hb
  have := a.isLt; have := b.isLt
  exact h (Fin.ext (by omega))
theorem rs_disj (a b : Fin 31) (h : a ≠ b) : Disjoint (rsSl a.val).view.set (rsSl b.val).view.set := by
  have e : ∀ n : ℕ, (rsSl n).view.set = (slotR n).set := fun n => (View.set_reshape _ _).trans (View.set_slice_whole _ _)
  rw [e, e]; exact slot_disj a b h
theorem ag_disj (a b : Fin 31) (h : a ≠ b) : Disjoint (agSl a.val).view.set (agSl b.val).view.set := by
  have e : ∀ n : ℕ, (agSl n).view.set = (slotR n).set := fun n => (View.set_reshape _ _).trans (View.set_slice_whole _ _)
  rw [e, e]; exact slot_disj a b h

/-- The partial sums are the rows of each send, and the rows that the device keeps. -/
theorem acc_cut (c : Dev nD) : wh c cc0_scratch2 (accb m c) ⊢ iprop((bigSep (Finset.Ico 0 31) fun k => accPts m c k) ∗ accRest c) := by
  unfold accRest
  refine (Ring.fam_split (fun n : Fin 31 => (accSl c n.val).view.set) (acc_disj c) (ℓ := (c : Thread nD τ).loc cc0_scratch2) (q := fullShare) (accb m c)).trans
    (BIClass.sep_mono (fam_out (Φ := fun k => accPts m c k) fun _ => ?_) (Ring.pointsTo_exists _ _))
  unfold accPts
  exact .rfl
theorem acc_join (c : Dev nD) : iprop((bigSep (Finset.Ico 0 31) fun k => accPts m c k) ∗ accRest c) ⊢ anyB (F := F) c cc0_scratch2 := by
  unfold accRest anyB
  refine (BIClass.sep_mono (fam_in (Φ := fun k => accPts m c k) fun i => ?_) .rfl).trans
    (Ring.fam_join (fun n : Fin 31 => (accSl c n.val).view.set) (acc_disj c) (ℓ := (c : Thread nD τ).loc cc0_scratch2) (q := fullShare) (accb m c))
  unfold accPts
  iintro H; iexists (accb m c); iexact H

/-- The summed rows, shared out among the sends of the second exchange. -/
theorem red_set : (redMr.view.set : Finset redMr.view.ty.Idx) = Finset.univ := (Memref.isWhole_whole cc0_scratch5).set_eq_univ
theorem red_cut (c : Dev nD) : wh c cc0_scratch5 (redb m c) ⊣⊢ iprop(redRest m c ∗ bigSep (Finset.Ico 0 31) fun k => redPts m c k) := by
  unfold redRest redPts
  rw [red_set, ← Finset.range_eq_Ico]
  exact Transfers.pointsTo_toks_range fullShare 31

/-- A receive buffer is the slots of the steps, and nothing else that is ever touched. -/
theorem slots_cut (c : Dev nD) : iprop(anyB (F := F) c cc0_scratch3 ∗ anyB c cc0_scratch4)
    ⊢ iprop((bigSep (Finset.Ico 0 31) fun k => rsAny c k) ∗ (bigSep (Finset.Ico 0 31) fun k => agAny c k) ∗ slotRest c) := by
  unfold slotRest anyB
  refine (BIClass.sep_mono ((Ring.fam_split_ex (fun n : Fin 31 => (rsSl n.val).view.set) rs_disj (ℓ := (c : Thread nD τ).loc cc0_scratch3) (q := fullShare)).trans
      (BIClass.sep_mono (fam_out (Φ := fun k => rsAny c k) fun _ => ?_) .rfl))
    ((Ring.fam_split_ex (fun n : Fin 31 => (agSl n.val).view.set) ag_disj (ℓ := (c : Thread nD τ).loc cc0_scratch4) (q := fullShare)).trans
      (BIClass.sep_mono (fam_out (Φ := fun k => agAny c k) fun _ => ?_) .rfl))).trans ?_
  · unfold rsAny; exact .rfl
  · unfold agAny; exact .rfl
  iintro ⟨⟨H3, R3⟩, H4, R4⟩
  isplitl [H3]; · iexact H3
  isplitl [H4]; · iexact H4
  isplitl [R3] <;> iassumption
theorem rs_forget (c : Dev nD) (k : ℕ) : rsLand m c k ⊢ rsAny c k := by
  unfold rsLand rsAny; iintro ⟨%f, H, -⟩; iexists f; iexact H
theorem ag_forget (c : Dev nD) (k : ℕ) : agLand m c k ⊢ agAny c k := by
  unfold agLand agAny; iintro ⟨%f, H, -⟩; iexists f; iexact H
theorem slots_join (c : Dev nD) : iprop((bigSep (Finset.Ico 0 31) fun k => rsLand m c k) ∗ (bigSep (Finset.Ico 0 31) fun k => agLand m c k) ∗ slotRest c)
    ⊢ iprop(anyB (F := F) c cc0_scratch3 ∗ anyB c cc0_scratch4) := by
  unfold slotRest anyB
  refine BIBase.Entails.trans ?_ (BIClass.sep_mono
    ((BIClass.sep_mono (fam_in (Φ := fun k => rsLand m c k) fun i => ?_) .rfl).trans
      (Ring.fam_join (fun n : Fin 31 => (rsSl n.val).view.set) rs_disj (ℓ := (c : Thread nD τ).loc cc0_scratch3) (q := fullShare) (fun _ => Classical.ofNonempty)))
    ((BIClass.sep_mono (fam_in (Φ := fun k => agLand m c k) fun i => ?_) .rfl).trans
      (Ring.fam_join (fun n : Fin 31 => (agSl n.val).view.set) ag_disj (ℓ := (c : Thread nD τ).loc cc0_scratch4) (q := fullShare) (fun _ => Classical.ofNonempty))))
  · iintro ⟨H3, H4, R3, R4⟩
    isplitl [H3 R3]; · isplitl [H3] <;> iassumption
    isplitl [H4] <;> iassumption
  · exact (rs_forget m c i).trans (by unfold rsAny; exact .rfl)
  · exact (ag_forget m c i).trans (by unfold agAny; exact .rfl)

/-- What the barrier handed over, by exchange. -/
theorem bar_cut (c : Dev nD) : (bigSep (Finset.range 31) fun n => barPay (F := F) c n)
    ⊢ iprop(((bigSep (Finset.Ico 0 31) fun k => rsAny (peer c k) k) ∗ bigSep (Finset.Ico 0 31) fun k => reached ER (rsRecvC (peer c k) k) 0) ∗ SLg c) := by
  unfold SLg barPay
  rw [← Finset.range_eq_Ico]
  simp only [bigSep_sep']
  iintro ⟨H1, H2, H3, H4⟩
  isplitl [H1 H3]
  · isplitl [H1] <;> iassumption
  isplitl [H2] <;> iassumption

/-- The start of the waits of a family. -/
theorem wt_start (c : Dev nD) (s : ℕ → DmaSem sig) (P : ℕ → sProp 𝕄) :
    iprop((bigSep (Finset.range 31) fun k => cred (tallyAt (((c : Thread nD τ), SemLoc.dma (s k)) : GSem nD τ sig) () N)) ∗ AtS c s) ⊢ Wt s P c 0 := by
  unfold AtS Wt
  rw [← bigSep_sep', Finset.range_zero, bigSep_empty, ← Finset.range_eq_Ico]
  exact Laws.sep_emp.2

variable {c}

/-- The wait on the barrier: every other device has entered, and its slots for this device are handed over. -/
theorem step_barrier {α : Type} {Q : α → sProp 𝕄} {sem : Sem sig} {z : ℤ} {k : PUnit → Prog (TpuEff nD τ sig (Elt F) Λ₀ .tc) α}
    (hs : sem = barS) (hz : z = ((31 : ℕ) : ℤ))
    (next : iprop(ctx m K c ∗ (anyB c cc0_scratch0 ∗ (anyB c cc0_scratch2 ∗ RX m c)) ∗ SA m c 0) ⊢ wpk c (k ⟨⟩) Q) :
    iprop(ctx m K c ∗ (Bar0 c ∗ REST m c ∗ anyB c cc0_scratch0 ∗ anyB c cc0_scratch2 ∗ SA m c 0) ∗ SB c 31) ⊢ wpk c (.op (.semWait sem z) k) Q := by
  subst hs hz
  unfold Bar0 SB ow
  rw [Obar_end, add_zero]
  iintro ⟨#HC, ⟨⟨Hcr, Hat⟩, HR, H0, H2, HA⟩, ⟨%W, HO⟩, -⟩
  unfold ctx
  ihave HC2 := HC
  icases HC2 with ⟨#HI, #Hlev, -⟩
  ihave #HIp := (invs_get m (K := K) (mem_barCell c)) $$ HI
  iapply (Rounds.wp_wait_rest_token 𝒱₀ ER (Rd m) (c : Thread nD τ) none (κ := K (barCell c))
      (wpE_semWait_eq 𝒱₀ (c : Thread nD τ) none Set.univ) (Set.mem_univ _) () (O := Oag c 0 + Ors c 0) (W := W) (R := 0) (m := 0) (T := ∅)
      ((Nat.zero_add _).trans (expect_bar m c).symm)) $$ [Hcr HO Hat]
  · isplitr; · iexact HIp
    isplitl [Hcr]; · iexact Hcr
    isplitl [HO]; · iexact HO
    isplitr; · iapply mayWait_bar; iexact Hlev
    iexact Hat
  iintro ⟨HO, Hat, -, Hpay⟩
  ihave HP := (Entails.of_eq (rest_bar m c)) $$ Hpay
  iapply next
  unfold RX Bar1 ow ctx
  isplitr; · iexact HC
  isplitr [HA]
  · isplitl [H0]; · iexact H0
    isplitl [H2]; · iexact H2
    isplitl [Hat]; · iexact Hat
    isplitl [HO]; · iexists _; iexact HO
    isplitl [HP] <;> iassumption
  iexact HA

/-- From the computation to the first exchange: the partial sums are cut into the rows that each send takes. -/
theorem to_RS : iprop(ctx m K c ∗ (RX m c ∗ (wh c cc0_scratch0 (accf m c) ∗ wh c cc0_scratch2 (accb m c))) ∗ SA m c 32)
    ⊢ iprop(ctx m K c ∗ GR m c ∗ SR m c 0) := by
  unfold RX REST TR GR SR
  rw [Finset.range_zero, bigSep_empty]
  simp only [bigSep_sep']
  iintro ⟨HC, ⟨⟨Hb, HO, HP, ⟨⟨HTR, HTR'⟩, HTG, HA1, HA2, HW1, HW2, H5, HS, HR⟩⟩, Ha, Hab⟩, HA⟩
  ihave HP := (bar_cut c) $$ HP
  icases HP with ⟨⟨HP1, HP3⟩, HP2⟩
  ihave Hab := (acc_cut m c) $$ Hab
  icases Hab with ⟨Hab, Har⟩
  isplitl [HC]; · iexact HC
  iframe
  iempintro

/-- From the sends of the first exchange to its waits. -/
theorem to_V : iprop(ctx m K c ∗ GR m c ∗ SR m c 31)
    ⊢ iprop(ctx m K c ∗ (anyB c cc0_scratch5 ∗ (anyB c cc0_stg5_0 ∗ (GV m c ∗ wh c cc0_scratch0 (accf m c)))) ∗ ow c (Oag c 0) ∗ Wt rsRecvS (rsLand m c) c 0) := by
  unfold GR SR GV
  rw [Ors_end, add_zero]
  iintro ⟨HC, ⟨Hb, HS, HTG, HA1, HA2, HW1, HW2, H5, Ho, HR, HA, Ha, Har⟩, HO, -, Hcr⟩
  ihave HW := (wt_start c rsSendS (accPts m c)) $$ [Hcr HA1]
  · isplitl [Hcr] <;> iassumption
  iframe

/-- From the sums to the second exchange: the summed rows are shared out among the sends. -/
theorem to_AG : iprop(ctx m K c ∗ (((GV m c ∗ wh c cc0_scratch0 (accf m c)) ∗ wh c cc0_scratch5 (redb m c)) ∗ OUTS m c 0)
      ∗ ow c (Oag c 0) ∗ Wt rsRecvS (rsLand m c) c 31)
    ⊢ iprop(ctx m K c ∗ GG m c ∗ SG m c 0) := by
  unfold GV GG SG TG SLg
  rw [Finset.range_zero, bigSep_empty]
  simp only [bigSep_sep']
  iintro ⟨HC, ⟨⟨⟨⟨Hb, ⟨HS, HS'⟩, ⟨HTG, HTG'⟩, HA2, HW2, HW3, HR, HA, Har⟩, Ha⟩, H5⟩, Hout⟩, HO, HW1⟩
  ihave H5 := (red_cut m c).1 $$ H5
  icases H5 with ⟨H5r, H5⟩
  iframe
  iempintro

/-- From the sends of the second exchange to its waits. -/
theorem to_F : iprop(ctx m K c ∗ GG m c ∗ SG m c 31) ⊢ iprop(ctx m K c ∗ GE m c ∗ SF m c 0 0 0 0) := by
  unfold GG SG GE SF
  rw [Oag_end]
  iintro ⟨HC, ⟨Hb, HA1, HW2, HW3, HR, HA, Har, Ha, Hrr, Hout, HW1⟩, HO, -, Hcr⟩
  ihave HW := (wt_start c agSendS (redPts m c)) $$ [Hcr HA1]
  · isplitl [Hcr] <;> iassumption
  iframe

end Shift

/-- The devices that a step's signal, or copy, goes to. -/
theorem devEq {f : Dev nD → ℕ} {h : ∀ c, f c < nD} {n : ℕ} (H : ∀ c, f c = (peer c n).val) (c : Dev nD) : (⟨f c, h c⟩ : Dev nD) = peer c n :=
  Fin.ext (H c)

end Cert.Attn

end
-- ==== Proof.Walk1.lean ====
/-
The walk over the kernel's first half: the barrier, the computation, the first exchange and the sums of what it brought.
-/
module

public import proofs.«01_k».proof.Proof.Shift

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The walk over the program -/

section Walk

attribute [local irreducible] wp

variable {K : GSem nD τ sig → ℕ} {c : Dev nD}

/-- The partial sums, read while the first exchange lands. -/
theorem acc_accf {A B C G S : sProp 𝕄} {f : Buf (Elt F) ((c : Thread nD τ).loc cc0_scratch0)} : iprop(A ∗ (B ∗ (C ∗ (G ∗ wh c cc0_scratch0 f))) ∗ S)
    ⊢ iprop(wh c cc0_scratch0 f ∗ (wh c cc0_scratch0 f -∗ (A ∗ (B ∗ (C ∗ (G ∗ wh c cc0_scratch0 f))) ∗ S))) := by
  iintro ⟨HA, ⟨HB, HC, HG, H⟩, HS⟩
  isplitl [H]; · iexact H
  iintro H
  isplitl [HA]; · iexact HA
  isplitr [HS]
  · isplitl [HB]; · iexact HB
    isplitl [HC]; · iexact HC
    isplitl [HG] <;> iassumption
  iexact HS

/-- The store of the partial sums. -/
theorem step_accf {α : Type} {Q : α → sProp 𝕄} {A B G S : sProp 𝕄} {inb : ∀ a, (![0, 0] : Fin 2 → ℕ) a + S1024x1024.size a ≤ S1024x1024.size a} {w : Vec F S1024x1024 .f32}
    {hx : ((Memref.whole cc0_scratch0 : Memref sig .tc .vmem S1024x1024 .f32).access (Rect.unit (s := S1024x1024) ![0, 0] S1024x1024.size inb)).Stores Finset.univ}
    {hm : (Finset.univ : Finset (Rect.unit (s := S1024x1024) ![0, 0] S1024x1024.size inb).shape.Idx) = Finset.univ ∨ ∀ a, (Rect.unit (s := S1024x1024) ![0, 0] S1024x1024.size inb).stride a = 1}
    {k : PUnit → Prog (TpuEff nD τ sig (Elt F) Λ₀ .tc) α} (hw : w = accf m c)
    (next : iprop(A ∗ (B ∗ (G ∗ wh c cc0_scratch0 (accf m c))) ∗ S) ⊢ wpk c (k ⟨⟩) Q) :
    iprop(A ∗ (anyB c cc0_scratch0 ∗ (B ∗ G)) ∗ S)
      ⊢ wpk c (.op (.store (Memref.whole cc0_scratch0 : Memref sig .tc .vmem S1024x1024 .f32) (Rect.unit (s := S1024x1024) ![0, 0] S1024x1024.size inb) w Finset.univ hx hm) k) Q := by
  subst hw
  exact step_store (any_store cc0_scratch0 (g := accf m c) fun f => Memref.write_access_unit_zero_univ (Elt F) cc0_scratch0 zero2 _ f _) next

/-- The store of the partial sums in the exchange's format. -/
theorem step_accb {α : Type} {Q : α → sProp 𝕄} {A B G S : sProp 𝕄} {inb : ∀ a, (![0, 0] : Fin 2 → ℕ) a + S1024x1024.size a ≤ S1024x1024.size a} {w : Vec F S1024x1024 .bf16}
    {hx : ((Memref.whole cc0_scratch2 : Memref sig .tc .vmem S1024x1024 .bf16).access (Rect.unit (s := S1024x1024) ![0, 0] S1024x1024.size inb)).Stores Finset.univ}
    {hm : (Finset.univ : Finset (Rect.unit (s := S1024x1024) ![0, 0] S1024x1024.size inb).shape.Idx) = Finset.univ ∨ ∀ a, (Rect.unit (s := S1024x1024) ![0, 0] S1024x1024.size inb).stride a = 1}
    {k : PUnit → Prog (TpuEff nD τ sig (Elt F) Λ₀ .tc) α} (hw : w = accb m c)
    (next : iprop(A ∗ (B ∗ (G ∗ wh c cc0_scratch2 (accb m c))) ∗ S) ⊢ wpk c (k ⟨⟩) Q) :
    iprop(A ∗ (anyB c cc0_scratch2 ∗ (B ∗ G)) ∗ S)
      ⊢ wpk c (.op (.store (Memref.whole cc0_scratch2 : Memref sig .tc .vmem S1024x1024 .bf16) (Rect.unit (s := S1024x1024) ![0, 0] S1024x1024.size inb) w Finset.univ hx hm) k) Q := by
  subst hw
  exact step_store (any_store cc0_scratch2 (g := accb m c) fun f => Memref.write_access_unit_zero_univ (Elt F) cc0_scratch2 zero2 _ f _) next

/-- The store of the summed rows in the exchange's format. -/
theorem step_redb {α : Type} {Q : α → sProp 𝕄} {A B G S : sProp 𝕄} {inb : ∀ a, (![0, 0] : Fin 2 → ℕ) a + S32x1024.size a ≤ S32x1024.size a} {w : Vec F S32x1024 .bf16}
    {hx : ((Memref.whole cc0_scratch5 : Memref sig .tc .vmem S32x1024 .bf16).access (Rect.unit (s := S32x1024) ![0, 0] S32x1024.size inb)).Stores Finset.univ}
    {hm : (Finset.univ : Finset (Rect.unit (s := S32x1024) ![0, 0] S32x1024.size inb).shape.Idx) = Finset.univ ∨ ∀ a, (Rect.unit (s := S32x1024) ![0, 0] S32x1024.size inb).stride a = 1}
    {k : PUnit → Prog (TpuEff nD τ sig (Elt F) Λ₀ .tc) α} (hw : w = redb m c)
    (next : iprop(A ∗ (B ∗ (G ∗ wh c cc0_scratch5 (redb m c))) ∗ S) ⊢ wpk c (k ⟨⟩) Q) :
    iprop(A ∗ (anyB c cc0_scratch5 ∗ (B ∗ G)) ∗ S)
      ⊢ wpk c (.op (.store (Memref.whole cc0_scratch5 : Memref sig .tc .vmem S32x1024 .bf16) (Rect.unit (s := S32x1024) ![0, 0] S32x1024.size inb) w Finset.univ hx hm) k) Q := by
  subst hw
  exact step_store (any_store cc0_scratch5 (g := redb m c) fun f => Memref.write_access_unit_zero_univ (Elt F) cc0_scratch5 zero2 _ f _) next

/-- The store of the device's own rows of the result. -/
theorem step_own {α : Type} {Q : α → sProp 𝕄} {A G S : sProp 𝕄} {inb : ∀ a, (k0_off2 c) a + S32x1024.size a ≤ S1024x1024.size a} {w : Vec F S32x1024 .f32}
    {hx : (outM.access (Rect.unit (s := S1024x1024) (k0_off2 c) S32x1024.size inb)).Stores Finset.univ}
    {hm : (Finset.univ : Finset (Rect.unit (s := S1024x1024) (k0_off2 c) S32x1024.size inb).shape.Idx) = Finset.univ ∨ ∀ a, (Rect.unit (s := S1024x1024) (k0_off2 c) S32x1024.size inb).stride a = 1}
    {k : PUnit → Prog (TpuEff nD τ sig (Elt F) Λ₀ .tc) α} (hw : w = red m c) (next : iprop(A ∗ (G ∗ OUTS m c 0) ∗ S) ⊢ wpk c (k ⟨⟩) Q) :
    iprop(A ∗ (anyB c cc0_stg5_0 ∗ G) ∗ S)
      ⊢ wpk c (.op (.store outM (Rect.unit (s := S1024x1024) (k0_off2 c) S32x1024.size inb) w Finset.univ hx hm) k) Q :=
  step_store (own_store m hw) next

/-- The end of the first half. -/
theorem end_first {Q : (Σ' (d0 : Dev nD) (v2 : BitVec 32), BitVec 32) → sProp 𝕄} {x y : BitVec 32}
    (next : ∀ x y, iprop(ctx m K c ∗ (((GV m c ∗ wh c cc0_scratch0 (accf m c)) ∗ wh c cc0_scratch5 (redb m c)) ∗ OUTS m c 0)
      ∗ ow c (Oag c 0) ∗ Wt rsRecvS (rsLand m c) c 31) ⊢ Q ⟨c, x, y⟩) :
    iprop(ctx m K c ∗ (((GV m c ∗ wh c cc0_scratch0 (accf m c)) ∗ wh c cc0_scratch5 (redb m c)) ∗ OUTS m c 0)
      ∗ ow c (Oag c 0) ∗ Wt rsRecvS (rsLand m c) c (1 + 29 + 1)) ⊢ wpk c (Pure.pure ⟨c, ⟨x, y⟩⟩) Q :=
  step_ret (next x y)

set_option maxHeartbeats 20000000 in
/-- The first half of the kernel: the barrier, the computation, the first exchange and the sums of what it brought. -/
theorem walk_first {Q : (Σ' (d0 : Dev nD) (v2 : BitVec 32), BitVec 32) → sProp 𝕄}
    (next : ∀ x y, iprop(ctx m K c ∗ (((GV m c ∗ wh c cc0_scratch0 (accf m c)) ∗ wh c cc0_scratch5 (redb m c)) ∗ OUTS m c 0)
      ∗ ow c (Oag c 0) ∗ Wt rsRecvS (rsLand m c) c 31) ⊢ Q ⟨c, x, y⟩) :
    iprop(ctx m K c ∗ (Bar0 c ∗ REST m c ∗ anyB c cc0_scratch0 ∗ anyB c cc0_scratch2 ∗ SA m c 0) ∗ SB c 0)
      ⊢ wpk c (k0_part113 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9) Q := by
  rw [k0_part113_eq_skeleton]
  unfold k0_part113_skel
  repeat (first
    | (refine step_ret ?_
       subst hQ'
       dsimp only)
    | (refine wp_part fun Q' hQ' => ?_
       simp only [
        k0_part1_eq_skeleton, k0_part1_skel, k0_part2_eq_skeleton, k0_part2_skel, k0_part3_eq_skeleton, k0_part3_skel, k0_part4_eq_skeleton, k0_part4_skel,
        k0_part5_eq_skeleton, k0_part5_skel, k0_part6_eq_skeleton, k0_part6_skel, k0_part7_eq_skeleton, k0_part7_skel, k0_part8_eq_skeleton, k0_part8_skel,
        k0_part9_eq_skeleton, k0_part9_skel, k0_part10_eq_skeleton, k0_part10_skel, k0_part11_eq_skeleton, k0_part11_skel, k0_part12_eq_skeleton, k0_part12_skel,
        k0_part13_eq_skeleton, k0_part13_skel, k0_part14_eq_skeleton, k0_part14_skel, k0_part15_eq_skeleton, k0_part15_skel, k0_part16_eq_skeleton, k0_part16_skel,
        k0_part17_eq_skeleton, k0_part17_skel, k0_part18_eq_skeleton, k0_part18_skel, k0_part19_eq_skeleton, k0_part19_skel, k0_part20_eq_skeleton, k0_part20_skel,
        k0_part21_eq_skeleton, k0_part21_skel, k0_part22_eq_skeleton, k0_part22_skel, k0_part23_eq_skeleton, k0_part23_skel, k0_part24_eq_skeleton, k0_part24_skel,
        k0_part25_eq_skeleton, k0_part25_skel, k0_part26_eq_skeleton, k0_part26_skel, k0_part27_eq_skeleton, k0_part27_skel, k0_part28_eq_skeleton, k0_part28_skel,
        k0_part29_eq_skeleton, k0_part29_skel, k0_part30_eq_skeleton, k0_part30_skel, k0_part31_eq_skeleton, k0_part31_skel, k0_part32_eq_skeleton, k0_part32_skel,
        k0_part33_eq_skeleton, k0_part33_skel, k0_part34_eq_skeleton, k0_part34_skel, k0_part35_eq_skeleton, k0_part35_skel, k0_part36_eq_skeleton, k0_part36_skel,
        k0_part37_eq_skeleton, k0_part37_skel, k0_part38_eq_skeleton, k0_part38_skel, k0_part39_eq_skeleton, k0_part39_skel, k0_part40_eq_skeleton, k0_part40_skel,
        k0_part41_eq_skeleton, k0_part41_skel, k0_part42_eq_skeleton, k0_part42_skel, k0_part43_eq_skeleton, k0_part43_skel, k0_part44_eq_skeleton, k0_part44_skel,
        k0_part45_eq_skeleton, k0_part45_skel, k0_part46_eq_skeleton, k0_part46_skel, k0_part47_eq_skeleton, k0_part47_skel, k0_part48_eq_skeleton, k0_part48_skel,
        k0_part49_eq_skeleton, k0_part49_skel, k0_part50_eq_skeleton, k0_part50_skel, k0_part51_eq_skeleton, k0_part51_skel, k0_part52_eq_skeleton, k0_part52_skel,
        k0_part53_eq_skeleton, k0_part53_skel, k0_part54_eq_skeleton, k0_part54_skel, k0_part55_eq_skeleton, k0_part55_skel, k0_part56_eq_skeleton, k0_part56_skel,
        k0_part57_eq_skeleton, k0_part57_skel, k0_part58_eq_skeleton, k0_part58_skel, k0_part59_eq_skeleton, k0_part59_skel, k0_part60_eq_skeleton, k0_part60_skel,
        Prog.lift, Prog.bind_op, Prog.bind_ret, Prog.pure_eq_ret, Prog.bind_assoc, semSignalWord, semWaitWord])
    | refine step_device ?_
    | refine step_signal m (by decide) (devEq (by decide +kernel) c) rfl rfl ?_
    | refine step_barrier m rfl rfl ?_
    | refine step_load (M := Memref.whole cc0_stg0_0) (S := Finset.univ) (q := fullShare) (f := X m c) (v := X m c) (Finset.subset_univ _)
        (Memref.readAt_unit_zero (Elt F) cc0_stg0_0 zero3 _ _) (acc_frame (acc_left (ST_0 m))) ?_
    | refine step_load (M := Memref.whole cc0_stg1_0) (S := Finset.univ) (q := fullShare) (f := Wq m c) (v := Wq m c) (Finset.subset_univ _)
        (Memref.readAt_unit_zero (Elt F) cc0_stg1_0 zero2 _ _) (acc_frame (acc_left (ST_1 m))) ?_
    | refine step_load (M := Memref.whole cc0_stg3_0) (S := Finset.univ) (q := fullShare) (f := Wk m c) (v := Wk m c) (Finset.subset_univ _)
        (Memref.readAt_unit_zero (Elt F) cc0_stg3_0 zero2 _ _) (acc_frame (acc_left (ST_3 m))) ?_
    | refine step_load (M := Memref.whole cc0_stg4_0) (S := Finset.univ) (q := fullShare) (f := Wv m c) (v := Wv m c) (Finset.subset_univ _)
        (Memref.readAt_unit_zero (Elt F) cc0_stg4_0 zero2 _ _) (acc_frame (acc_left (ST_4 m))) ?_
    | refine step_load (M := Memref.whole cc0_stg2_0) (S := Finset.univ) (q := fullShare) (f := Wo m c) (v := Wo m c) (Finset.subset_univ _)
        (Memref.readAt_unit_zero (Elt F) cc0_stg2_0 zero2 _ _) (acc_frame (acc_left (ST_2 m))) ?_
    | refine step_attStore m (by decide) (by decide) rfl ?_
    | refine step_load (M := Memref.whole cc0_scratch1) (S := Finset.univ) (q := fullShare) (f := attn m c) (v := attn m c) (Finset.subset_univ _)
        (Memref.readAt_unit_zero (Elt F) cc0_scratch1 zero2 _ _) (acc_frame (acc_right (AT_32 m))) ?_
    | refine step_attPeek m fun _ => ?_
    | refine step_peek (M := Memref.whole cc0_scratch0) (any_peek cc0_scratch0) fun _ => ?_
    | refine step_peek (M := Memref.whole cc0_scratch2) (any_peek cc0_scratch2) fun _ => ?_
    | refine step_accf m rfl ?_
    | refine step_accb m rfl ?_
    | refine (to_RS m).trans ?_
    | refine step_rs m (by decide) (devEq (by decide +kernel) c) rfl rfl rfl rfl ?_
    | refine (to_V m).trans ?_
    | refine step_load (M := Memref.whole cc0_scratch0) (S := Finset.univ) (q := fullShare) (f := accf m c) (v := redF m c 0) (Finset.subset_univ _)
        rfl acc_accf ?_
    | refine step_waitRs m (by decide) rfl rfl ?_
    | refine step_slotRs m (by decide) ?_
    | refine step_peek (M := Memref.whole cc0_scratch5) (any_peek cc0_scratch5) fun _ => ?_
    | refine step_peek (M := Memref.whole cc0_stg5_0) (any_peek cc0_stg5_0) fun _ => ?_
    | refine step_redb m rfl ?_
    | refine step_own m rfl ?_)
  exact end_first m next

end Walk

end Cert.Attn

end
-- ==== Proof.Walk2.lean ====
/-
The walk over the kernel's second half: the second exchange, and the waits that finish the sends.
-/
module

public import proofs.«01_k».proof.Proof.Shift

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The walk over the second half of the program -/

/-- The rows that a store of the second exchange goes to. -/
theorem offEq {w : BitVec 32} {n : ℕ} (H : ∀ c, k0_off3 c w = ![32 * (back c n).val, 0]) (c : Dev nD) : k0_off3 c w = ![32 * (back c n).val, 0] := H c

section Walk

attribute [local irreducible] wp

variable {K : GSem nD τ sig → ℕ} {c : Dev nD}

set_option maxHeartbeats 8000000 in
/-- The second half: the second exchange, and the waits that finish the sends. -/
theorem walk_second {x y : BitVec 32} {Q : PUnit → sProp 𝕄}
    (next : iprop(ctx m K c ∗ GE m c ∗ SF m c 31 31 31 30) ⊢ Q ⟨⟩) :
    iprop(ctx m K c ∗ (((GV m c ∗ wh c cc0_scratch0 (accf m c)) ∗ wh c cc0_scratch5 (redb m c)) ∗ OUTS m c 0)
      ∗ ow c (Oag c 0) ∗ Wt rsRecvS (rsLand m c) c 31)
      ⊢ wpk c (k0_part114 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 c x y) Q := by
  rw [k0_part114_eq_skeleton]
  unfold k0_part114_skel
  simp only [Prog.lift, Prog.bind_op, Prog.bind_ret, Prog.pure_eq_ret, Prog.bind_assoc]
  repeat (first
    | (refine step_ret ?_
       subst hQ'
       dsimp only)
    | (refine wp_part fun Q' hQ' => ?_
       simp only [
        k0_part61_eq_skeleton, k0_part61_skel, k0_part62_eq_skeleton, k0_part62_skel, k0_part63_eq_skeleton, k0_part63_skel, k0_part64_eq_skeleton, k0_part64_skel,
        k0_part65_eq_skeleton, k0_part65_skel, k0_part66_eq_skeleton, k0_part66_skel, k0_part67_eq_skeleton, k0_part67_skel, k0_part68_eq_skeleton, k0_part68_skel,
        k0_part69_eq_skeleton, k0_part69_skel, k0_part70_eq_skeleton, k0_part70_skel, k0_part71_eq_skeleton, k0_part71_skel, k0_part72_eq_skeleton, k0_part72_skel,
        k0_part73_eq_skeleton, k0_part73_skel, k0_part74_eq_skeleton, k0_part74_skel, k0_part75_eq_skeleton, k0_part75_skel, k0_part76_eq_skeleton, k0_part76_skel,
        k0_part77_eq_skeleton, k0_part77_skel, k0_part78_eq_skeleton, k0_part78_skel, k0_part79_eq_skeleton, k0_part79_skel, k0_part80_eq_skeleton, k0_part80_skel,
        k0_part81_eq_skeleton, k0_part81_skel, k0_part82_eq_skeleton, k0_part82_skel, k0_part83_eq_skeleton, k0_part83_skel, k0_part84_eq_skeleton, k0_part84_skel,
        k0_part85_eq_skeleton, k0_part85_skel, k0_part86_eq_skeleton, k0_part86_skel, k0_part87_eq_skeleton, k0_part87_skel, k0_part88_eq_skeleton, k0_part88_skel,
        k0_part89_eq_skeleton, k0_part89_skel, k0_part90_eq_skeleton, k0_part90_skel, k0_part91_eq_skeleton, k0_part91_skel, k0_part92_eq_skeleton, k0_part92_skel,
        k0_part93_eq_skeleton, k0_part93_skel, k0_part94_eq_skeleton, k0_part94_skel, k0_part95_eq_skeleton, k0_part95_skel, k0_part96_eq_skeleton, k0_part96_skel,
        k0_part97_eq_skeleton, k0_part97_skel, k0_part98_eq_skeleton, k0_part98_skel, k0_part99_eq_skeleton, k0_part99_skel, k0_part100_eq_skeleton, k0_part100_skel,
        k0_part101_eq_skeleton, k0_part101_skel, k0_part102_eq_skeleton, k0_part102_skel, k0_part103_eq_skeleton, k0_part103_skel, k0_part104_eq_skeleton,
        k0_part104_skel, k0_part105_eq_skeleton, k0_part105_skel, k0_part106_eq_skeleton, k0_part106_skel, k0_part107_eq_skeleton, k0_part107_skel,
        k0_part108_eq_skeleton, k0_part108_skel, k0_part109_eq_skeleton, k0_part109_skel, k0_part110_eq_skeleton, k0_part110_skel, k0_part111_eq_skeleton,
        k0_part111_skel, k0_part112_eq_skeleton, k0_part112_skel, Prog.lift, Prog.bind_op, Prog.bind_ret, Prog.pure_eq_ret, Prog.bind_assoc, semSignalWord, semWaitWord])
    | refine (to_AG m).trans ?_
    | refine step_ag m (by decide) (devEq (by decide +kernel) c) rfl rfl rfl rfl ?_
    | refine (to_F m).trans ?_
    | refine step_waitAg m (by decide) rfl rfl ?_
    | refine step_slotAg m (by decide) ?_
    | refine step_outPeek m fun _ => ?_
    | (refine step_outStore m (by decide) ?_ ?_ ?_
       · exact offEq (by decide +kernel) c
       · rfl)
    | refine step_waitRsSend m (by decide) rfl rfl ?_
    | refine step_waitAgSend m (by decide) rfl rfl ?_)
  exact step_ret next

end Walk

end Cert.Attn

end
-- ==== Proof.Ends.lean ====
/-
What a device holds when the kernel starts, and when it ends.
-/
module

public import proofs.«01_k».proof.Proof.Shift

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## From what a device holds at the kernel's start, and to what it holds at its end -/

/-- The slots of a device's transfer semaphores, by family and step. -/
def slotIx : Fin 4 × Fin 31 ≃ Fin 124 := (Equiv.prodCongr (Equiv.refl (Fin 4)) Fin.revPerm).trans finProdFinEquiv

theorem slotIx_val (a : Fin 4) (b : Fin 31) : (slotIx (a, b)).val = 30 - b.val + 31 * a.val := by
  show ((Fin.rev b).val + 31 * a.val) = _
  rw [Fin.val_rev]; omega

/-- One family's cells of a device. -/
abbrev famOf (Φ : SemLoc sig → sProp 𝕄) (s : ℕ → DmaSem sig) : sProp 𝕄 := bigSep (Finset.range 31) fun k => Φ (.dma (s k))

theorem fam_one (Φ : SemLoc sig → sProp 𝕄) (a : Fin 4) (s : ℕ → DmaSem sig) (hs : ∀ k < 31, (s k).val = 6 + (30 - k + 31 * a.val)) :
    bigSep Finset.univ (fun b : Fin 31 => Φ (ownS (slotIx (a, b)))) = famOf Φ s := by
  rw [famOf, Finset.range_eq_Ico, ← fam_fin]
  refine bigSep_congr fun b _ => congrArg (fun q : DmaSem sig => Φ (.dma q)) (Fin.ext ?_)
  rw [hs b.val b.isLt]
  show 6 + (slotIx (a, b)).val = _
  rw [slotIx_val]

/-- All of a device's transfer cells, family by family. -/
theorem fam_all (Φ : SemLoc sig → sProp 𝕄) : bigSep Finset.univ (fun q : Fin 124 => Φ (ownS q))
    = iprop(famOf Φ rsSendS ∗ famOf Φ rsRecvS ∗ famOf Φ agSendS ∗ famOf Φ agRecvS) := by
  rw [bigSep_univ_equiv slotIx, bigSep_univ_prod, show (Finset.univ : Finset (Fin 4)) = {0, 1, 2, 3} from by decide, bigSep_insert (by decide),
    bigSep_insert (by decide), bigSep_insert (by decide), bigSep_singleton,
    fam_one Φ 0 rsSendS (fun k hk => by simp only [rsSendS]; omega), fam_one Φ 1 rsRecvS (fun k hk => by show 37 + (30 - k) = 6 + (30 - k + 31 * 1); omega),
    fam_one Φ 2 agSendS (fun k hk => by show 68 + (30 - k) = 6 + (30 - k + 31 * 2); omega), fam_one Φ 3 agRecvS (fun k hk => by show 99 + (30 - k) = 6 + (30 - k + 31 * 3); omega)]
  rfl

/-- A family over the steps, in the other order. -/
theorem fam_rev (Φ : ℕ → sProp 𝕄) : bigSep (Finset.Ico 0 31) Φ = bigSep (Finset.Ico 0 31) fun k => Φ (30 - k) := by
  rw [← fam_fin, ← fam_fin, bigSep_univ_equiv Fin.revPerm]
  refine bigSep_congr fun b _ => congrArg Φ ?_
  show (Fin.rev b).val = _
  rw [Fin.val_rev]; omega

section Ends

variable {K : GSem nD τ sig → ℕ} (c : Dev nD)

/-- The tokens of the duties that the device's signals pay. -/
@[irreducible] def TB : sProp 𝕄 := bigSep (Finset.Ico 0 31) fun k => dutyTok ER (barCell (peer c k)) 0 (30 - k)
/-- The credit of a receiving family. -/
@[irreducible] def CR (s : ℕ → DmaSem sig) : sProp 𝕄 :=
  bigSep (Finset.range 31) fun k => cred (tallyAt (((c : Thread nD τ), SemLoc.dma (s k)) : GSem nD τ sig) () N)
/-- What of the protocol a device holds when the kernel starts, its cells open. -/
@[irreducible] def HOLD : sProp 𝕄 :=
  iprop(Bar0 c ∗ (AtS c rsSendS ∗ AtS c rsRecvS ∗ AtS c agSendS ∗ AtS c agRecvS) ∗ (TB c ∗ TR c ∗ TG c) ∗ CR c rsRecvS ∗ CR c agRecvS)
/-- The buffers of the kernel's own, at contents not named. -/
@[irreducible] def SCR : sProp 𝕄 :=
  iprop(anyB c cc0_scratch0 ∗ anyB c cc0_scratch1 ∗ anyB c cc0_scratch2 ∗ anyB c cc0_scratch3 ∗ anyB c cc0_scratch4 ∗ anyB (F := F) c cc0_scratch5)
/-- A device's cells closed, their counters at zero. -/
@[irreducible] def ZERO : sProp 𝕄 := iprop(semVal (barCell c) 0 ∗ Pipeline.ownSems0 ownS c)

theorem at_start : anyB (F := F) c cc0_scratch1 ⊢ AT m c 0 := by
  unfold anyB AT
  iintro ⟨%f, H⟩
  iexists f
  isplitl [H]; · iexact H
  ipureintro; intro i hi; exact absurd hi (Nat.not_lt_zero _)

theorem sb_start : iprop(ow c (O₀ c) ∗ TB c ∗ (bigSep (Finset.Ico 0 31) fun k => rsAny (F := F) c k) ∗ bigSep (Finset.Ico 0 31) fun k => agAny c k)
    ⊢ SB c 0 := by
  unfold TB SB
  rw [fam_rev (fun k => rsAny c k), fam_rev (fun k => agAny c k), show O₀ c = Oag c 0 + Ors c 0 + Obar c 0 from rfl]
  simp only [bigSep_sep']
  iintro ⟨HO, HT, H1, H2⟩
  iframe

/-- The kernel's first state. -/
theorem body_start : iprop(ctx m K c ∗ HOLD c ∗ SCR c ∗ anyB c cc0_stg5_0 ∗ ST m c ∗ ow c (O₀ c))
    ⊢ iprop(ctx m K c ∗ (Bar0 c ∗ REST m c ∗ anyB c cc0_scratch0 ∗ anyB c cc0_scratch2 ∗ SA m c 0) ∗ SB c 0) := by
  unfold HOLD SCR CR
  iintro ⟨HC, ⟨Hb, ⟨A1, A2, A3, A4⟩, ⟨TB, TR, TG⟩, C1, C2⟩, ⟨B0, B1, B2, B3, B4, B5⟩, S5, HS, HO⟩
  ihave HT := (at_start m c) $$ B1
  ihave Hsl := (slots_cut (F := F) c) $$ [B3 B4]
  · isplitl [B3] <;> iassumption
  icases Hsl with ⟨R1, R2, R3⟩
  ihave HB := (sb_start (F := F) c) $$ [HO TB R1 R2]
  · iframe
  ihave W1 := (wt_start c rsRecvS (rsLand m c)) $$ [C1 A2]
  · isplitl [C1] <;> iassumption
  ihave W2 := (wt_start c agRecvS (agLand m c)) $$ [C2 A4]
  · isplitl [C2] <;> iassumption
  unfold REST
  iframe
  isplitl [HS] <;> iassumption

/-- A family all waited for. -/
theorem wt_end (s : ℕ → DmaSem sig) (P : ℕ → sProp 𝕄) : Wt s P c 31
    ⊢ iprop((bigSep (Finset.Ico 0 31) P) ∗ famOf (fun q => atPos ER (((c : Thread nD τ), q) : GSem nD τ sig) 1 ∅ 0) s) := by
  unfold Wt famOf
  simp only [bigSep_sep', Finset.range_eq_Ico]
  iintro ⟨-, H⟩
  iexact H

theorem outs_end : OUTS m c 31 ⊢ wh c cc0_stg5_0 (OUT m c) := by
  unfold OUTS
  iintro ⟨%f, H, %hf⟩
  obtain rfl : f = OUT m c := funext fun i => hf i (by
    have h0 : (i 0).val < 1024 := (i 0).isLt
    have hc : c.val < 32 := c.isLt
    by_cases h : (i 0).val / 32 = c.val
    · exact .inl h
    · refine .inr ⟨(c.val + 31 - (i 0).val / 32) % 32, by omega, ?_⟩
      simp only [back]; omega)
  iexact H

/-- Every cell is closed, its one round over. -/
theorem close_all : iprop(ctx m K c ∗ Bar1 c ∗ bigSep Finset.univ fun q : Fin 124 => atPos ER (((c : Thread nD τ), ownS q) : GSem nD τ sig) 1 ∅ 0)
    ⊢ (|={Set.univ}=> ZERO (F := F) c : sProp 𝕄) := by
  unfold Bar1 ZERO Pipeline.ownSems0
  iintro ⟨HC, Hb, Hq⟩
  ihave #HI := (ctx_invs m K c) $$ HC
  imod (Rounds.cell_close ER (Rd m) (Set.mem_univ (K (barCell c))) (fun h => h) (R := 1) (duties_later m (barCell c))) $$ [Hb] with Hb
  · isplitr
    · iapply (invs_get m (mem_barCell c)); iexact HI
    · iexact Hb
  ihave Hc := (bigSep_with_persistent (S := Finset.univ) (R := invs m K) (Φ := fun q : Fin 124 => atPos ER (((c : Thread nD τ), ownS q) : GSem nD τ sig) 1 ∅ 0)
    (Ψ := fun q : Fin 124 => iprop(cellInv ER (Rd m) (K ((c : Thread nD τ), ownS q)) ((c : Thread nD τ), ownS q) ∗ atPos ER (((c : Thread nD τ), ownS q) : GSem nD τ sig) 1 ∅ 0))
    (fun q _ => by
      iintro ⟨#HI, H⟩
      isplitr
      · iapply (invs_get m (mem_dmaCell c _ (by show 6 ≤ 6 + q.val; omega))); iexact HI
      · iexact H)) $$ [Hq]
  · isplitr
    · iexact HI
    · iexact Hq
  imod (Rounds.cells_close ER (Rd m) Finset.univ (fun q : Fin 124 => (((c : Thread nD τ), ownS q) : GSem nD τ sig)) (fun q => K ((c : Thread nD τ), ownS q))
    (fun _ _ => Set.mem_univ _) (fun _ _ h => h) (fun _ => 1) (fun q _ => duties_later m _)) $$ Hc with Hc
  imodintro
  isplitl [Hb] <;> iassumption

/-- The kernel's last state. -/
theorem body_end : iprop(ctx m K c ∗ GE m c ∗ SF m c 31 31 31 31)
    ⊢ (|={Set.univ}=> iprop(ow c 0 ∗ ST m c ∗ wh c cc0_stg5_0 (OUT m c) ∗ SCR c ∗ ZERO c) : sProp 𝕄) := by
  unfold GE SF
  iintro ⟨HC, ⟨Hb, Hsl, ⟨HS, HT⟩, Har, Ha, Hrr, W1⟩, HO, W2, Hout, W3, W4⟩
  ihave W1 := (wt_end c rsRecvS (rsLand m c)) $$ W1
  ihave W2 := (wt_end c agRecvS (agLand m c)) $$ W2
  ihave W3 := (wt_end c rsSendS (accPts m c)) $$ W3
  ihave W4 := (wt_end c agSendS (redPts m c)) $$ W4
  icases W1 with ⟨P1, A1⟩
  icases W2 with ⟨P2, A2⟩
  icases W3 with ⟨P3, A3⟩
  icases W4 with ⟨P4, A4⟩
  imod (close_all m (K := K) c) $$ [HC Hb A1 A2 A3 A4] with HZ
  · rw [fam_all (fun q => atPos ER (((c : Thread nD τ), q) : GSem nD τ sig) 1 ∅ 0)]
    iframe
  ihave Hout := (outs_end m c) $$ Hout
  ihave B2 := (acc_join m c) $$ [P3 Har]
  · isplitl [P3] <;> iassumption
  ihave B34 := (slots_join m c) $$ [P1 P2 Hsl]
  · iframe
  ihave B5 := (red_cut m c).2 $$ [P4 Hrr]
  · isplitl [Hrr] <;> iassumption
  icases B34 with ⟨B3, B4⟩
  ihave HT := (show AT m c 32 ⊢ anyB (F := F) c cc0_scratch1 from by
    unfold AT anyB; iintro ⟨%f, H, -⟩; iexists f; iexact H) $$ HT
  ihave B5 := (show wh c cc0_scratch5 (redb m c) ⊢ anyB (F := F) c cc0_scratch5 from by
    unfold anyB; iintro H; iexists (redb m c); iexact H) $$ B5
  ihave Ha := (show wh c cc0_scratch0 (accf m c) ⊢ anyB (F := F) c cc0_scratch0 from by
    unfold anyB; iintro H; iexists (accf m c); iexact H) $$ Ha
  imodintro
  unfold SCR
  iframe

end Ends

end Cert.Attn

end
-- ==== Proof.Body.lean ====
/-
The kernel's run on a device.
-/
module

public import proofs.«01_k».proof.Proof.Walk1
public import proofs.«01_k».proof.Proof.Walk2
public import proofs.«01_k».proof.Proof.Ends

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's run on a device -/

section Body

attribute [local irreducible] wp

variable {K : GSem nD τ sig → ℕ} (c : Dev nD)

/-- What a device holds before the kernel and after. -/
@[irreducible] def FIRST (K : GSem nD τ sig → ℕ) : sProp 𝕄 :=
  iprop(ctx m K c ∗ HOLD c ∗ SCR c ∗ anyB c cc0_stg5_0 ∗ ST m c ∗ ow c (O₀ c))
@[irreducible] def LAST : sProp 𝕄 := iprop(ow c 0 ∗ ST m c ∗ wh c cc0_stg5_0 (OUT m c) ∗ SCR c ∗ ZERO c)

set_option maxHeartbeats 2000000 in
/-- The kernel runs from the one to the other. -/
theorem body_run : FIRST m c K ⊢ wpk c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
    (fun _ => LAST m c) := by
  unfold FIRST LAST
  rw [cc0_body_eq_skeleton]
  unfold cc0_body_skel
  refine (body_start m c).trans ?_
  refine wp_part fun Q' hQ' => ?_
  refine walk_first m fun x y => ?_
  subst hQ'
  dsimp only
  refine wp_part fun Q' hQ' => ?_
  refine walk_second m ?_
  subst hQ'
  simp only [Prog.lift, Prog.bind_op, Prog.bind_ret, Prog.pure_eq_ret]
  refine step_waitAgSend m (by decide) rfl rfl ?_
  rw [wpk, wp_ret]
  exact body_end m c

end Body

end Cert.Attn

end
-- ==== Proof.Region.lean ====
/-
The kernel's call as a region of the program.
-/
module

public import proofs.«01_k».proof.Proof.Body
public import Idealize.ShloMosaic.Lib.Pipeline.ValueKit

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's call as a region of the program -/

section Region

/-- What of the launch a device keeps until the kernel's call: the invariants, its place in its barrier cell, the rights to
    open its transfer cells, the tokens of the duties that it pays, and the credit that the others owe it. -/
@[irreducible] def KEEP (c : Dev nD) : sProp 𝕄 :=
  iprop((∃ K, invs m K) ∗ (bigSep Finset.univ fun d : Dev nD => reached ER (barCell d) 0) ∗ Bar0 c
    ∗ (bigSep Finset.univ fun q : Fin 124 => openTok ER (((c : Thread nD τ), ownS q) : GSem nD τ sig))
    ∗ (TB c ∗ TR c ∗ TG c) ∗ CR c rsRecvS ∗ CR c agRecvS)
/-- The same when the transfer cells are open. -/
@[irreducible] def OPEN (c : Dev nD) : sProp 𝕄 := iprop(∃ K, ctx m K c ∗ HOLD c)

theorem open_all (c : Dev nD) : iprop(KEEP m c ∗ Pipeline.ownSems0 ownS c ∗ levAts L lv) ⊢ (|={Set.univ}=> OPEN m c : sProp 𝕄) := by
  unfold KEEP OPEN HOLD ctx Pipeline.ownSems0
  iintro ⟨⟨⟨%K, #HI⟩, #HR, Hb, Ho, HT, C1, C2⟩, Hq, #HL⟩
  ihave Ho := (bigSep_with_persistent (S := Finset.univ) (R := invs m K) (Φ := fun q : Fin 124 => openTok ER (((c : Thread nD τ), ownS q) : GSem nD τ sig))
    (Ψ := fun q : Fin 124 => iprop(cellInv ER (Rd m) (K ((c : Thread nD τ), ownS q)) ((c : Thread nD τ), ownS q) ∗ openTok ER (((c : Thread nD τ), ownS q) : GSem nD τ sig)))
    (fun q _ => by
      iintro ⟨#HI, H⟩
      isplitr
      · iapply (invs_get m (mem_dmaCell c _ (by show 6 ≤ 6 + q.val; omega))); iexact HI
      · iexact H)) $$ [Ho]
  · isplitr
    · iexact HI
    · iexact Ho
  imod (Rounds.cells_open ER (Rd m) Finset.univ (fun q : Fin 124 => (((c : Thread nD τ), ownS q) : GSem nD τ sig)) (fun q => K ((c : Thread nD τ), ownS q))
    (fun _ _ => Set.mem_univ _)) $$ [Ho Hq] with Hc
  · isplitl [Ho] <;> iassumption
  ihave Hc := (show (bigSep Finset.univ fun q : Fin 124 => iprop(atPos ER (((c : Thread nD τ), ownS q) : GSem nD τ sig) 0 ∅ 0
      ∗ reached ER (((c : Thread nD τ), ownS q) : GSem nD τ sig) 0) : sProp 𝕄)
    ⊢ iprop((AtS c rsSendS ∗ AtS c rsRecvS ∗ AtS c agSendS ∗ AtS c agRecvS)
      ∗ famOf (fun s => reached ER (((c : Thread nD τ), s) : GSem nD τ sig) 0) rsSendS
      ∗ famOf (fun s => reached ER (((c : Thread nD τ), s) : GSem nD τ sig) 0) rsRecvS
      ∗ famOf (fun s => reached ER (((c : Thread nD τ), s) : GSem nD τ sig) 0) agSendS
      ∗ famOf (fun s => reached ER (((c : Thread nD τ), s) : GSem nD τ sig) 0) agRecvS) from Entails.of_eq (by
    rw [bigSep_sep', fam_all (fun s => atPos ER (((c : Thread nD τ), s) : GSem nD τ sig) 0 ∅ 0), fam_all (fun s => reached ER (((c : Thread nD τ), s) : GSem nD τ sig) 0)]
    unfold AtS
    rfl)) $$ Hc
  icases Hc with ⟨HA, #R1, #R2, #R3, #R4⟩
  imodintro
  iexists K
  isplitr
  · isplitr; · iexact HI
    isplitr; · iexact HL
    isplitr; · iexact HR
    isplitr; · iexact R1
    isplitr; · iexact R2
    isplitr; · iexact R3
    iexact R4
  isplitl [Hb]; · iexact Hb
  isplitl [HA]; · iexact HA
  isplitl [HT]; · iexact HT
  isplitl [C1] <;> iassumption

/-- The call's proof data: the arrays as launched; after the kernel the inputs as staged and the result; the device owing
    everything before it, nothing after. -/
def dat0 (c : Dev nD) : Pipeline.Dat τ (Elt F) Unit ℕ UU ℕ cfg0 c where
  A w := m ((cfg0.win w).arr.view.loc (c : Thread nD τ))
  after w _ := match w with
    | ⟨0, _⟩ => X m c
    | ⟨1, _⟩ => Wq m c
    | ⟨2, _⟩ => Wo m c
    | ⟨3, _⟩ => Wk m c
    | ⟨4, _⟩ => Wv m c
    | ⟨5, _⟩ => OUT m c
  Φ t := if t.val = 0 then iprop(OPEN m c ∗ SCR c) else iprop(ZERO c ∗ SCR c)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

/-- An input's staging buffer, the input fetched. -/
theorem before_0 (c : Dev nD) (d) : (dat0 m c).before 0 t0_0 d = X m c := by
  unfold Pipeline.Dat.before; rw [if_pos (fetch0_0 _)]
  exact Memref.readAt_unit_zero (Elt F) main_arg0 (by decide) _ _
theorem before_1 (c : Dev nD) (d) : (dat0 m c).before 1 t0_0 d = Wq m c := by
  unfold Pipeline.Dat.before; rw [if_pos (fetch0_1 _)]
  exact Memref.readAt_unit_zero (Elt F) main_arg1 (by decide) _ _
theorem before_2 (c : Dev nD) (d) : (dat0 m c).before 2 t0_0 d = Wo m c := by
  unfold Pipeline.Dat.before; rw [if_pos (fetch0_2 _)]
  exact Memref.readAt_unit_zero (Elt F) main_arg4 (by decide) _ _
theorem before_3 (c : Dev nD) (d) : (dat0 m c).before 3 t0_0 d = Wk m c := by
  unfold Pipeline.Dat.before; rw [if_pos (fetch0_3 _)]
  exact Memref.readAt_unit_zero (Elt F) main_arg2 (by decide) _ _
theorem before_4 (c : Dev nD) (d) : (dat0 m c).before 4 t0_0 d = Wv m c := by
  unfold Pipeline.Dat.before; rw [if_pos (fetch0_4 _)]
  exact Memref.readAt_unit_zero (Elt F) main_arg3 (by decide) _ _

theorem arrAt_out (c : Dev nD) : (dat0 m c).arrAt 5 cfg0.N = OUT m c :=
  Pipeline.Dat.arrAt_eq_of_after_last (dat0 m c) 5 t0_0 (by decide +kernel) (OUT m c) fun j => rfl

theorem Φ_at (c : Dev nD) (t : Fin (cfg0.N + 1)) : (dat0 m c).Φ t = if t.val = 0 then iprop(OPEN m c ∗ SCR c) else iprop(ZERO c ∗ SCR c) := rfl
theorem owed_at (c : Dev nD) (t : Fin (cfg0.N + 1)) : (dat0 m c).owed t = if t.val = 0 then O₀ c else 0 := rfl

theorem Φ_first (c : Dev nD) {t : Fin (cfg0.N + 1)} (h : t.val = 0) : (dat0 m c).Φ t = iprop(OPEN m c ∗ SCR c) := by
  rw [Φ_at, if_pos h]
theorem Φ_last (c : Dev nD) {t : Fin (cfg0.N + 1)} (h : ¬ t.val = 0) : (dat0 m c).Φ t = iprop(ZERO c ∗ SCR c) := by
  rw [Φ_at, if_neg h]

theorem owesAt_first (c : Dev nD) {t : Fin (cfg0.N + 1)} (h : t.val = 0) : (ow c (O₀ c) ⊢ (dat0 m c).owesAt () t) ∧ ((dat0 m c).owesAt () t ⊢ ow c (O₀ c)) := by
  unfold Pipeline.Dat.owesAt Pipeline.owesWithin ow
  rw [owed_at, if_pos h]
  constructor
  · iintro ⟨%W, HO⟩; iexists W; isplitr
    · ipureintro; exact fun _ _ => Or.inl trivial
    · iexact HO
  · iintro ⟨%W, -, HO⟩; iexists W; iexact HO
theorem owesAt_last (c : Dev nD) {t : Fin (cfg0.N + 1)} (h : ¬ t.val = 0) : (ow c 0 ⊢ (dat0 m c).owesAt () t) ∧ ((dat0 m c).owesAt () t ⊢ ow c 0) := by
  unfold Pipeline.Dat.owesAt Pipeline.owesWithin ow
  rw [owed_at, if_neg h]
  constructor
  · iintro ⟨%W, HO⟩; iexists W; isplitr
    · ipureintro; exact fun _ _ => Or.inl trivial
    · iexact HO
  · iintro ⟨%W, -, HO⟩; iexists W; iexact HO

theorem succ_ne : ¬ (t0_0.succ : Fin (cfg0.N + 1)).val = 0 := Nat.succ_ne_zero _
theorem last_ne : ¬ (Fin.last cfg0.N).val = 0 := by rw [Fin.val_last, show cfg0.N = 1 from N_0]; decide

/-- What the kernel starts from at its call. -/
@[irreducible] def BODY (c : Dev nD) : sProp 𝕄 := iprop(OPEN m c ∗ SCR c ∗ anyB c cc0_stg5_0 ∗ ST m c ∗ ow c (O₀ c))

theorem body_open (c : Dev nD) : BODY m c ⊢ wpk c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9)
    (fun _ => LAST m c) := by
  have h : BODY m c ⊢ iprop(∃ K, FIRST m c K) := by
    unfold BODY OPEN FIRST
    iintro ⟨⟨%K, HC, HH⟩, H⟩
    iexists K
    isplitl [HC]; · iexact HC
    isplitl [HH] <;> iassumption
  exact h.trans (exists_elim fun K => body_run m c)

theorem called : defs₀ (F := F) .tc 0 (t0_0, cfg0.slots t0_0) = cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 := rfl

/-- What the call asks for at its end. -/
def AFT (c : Dev nD) : sProp 𝕄 := iprop((ZERO c ∗ SCR c) ∗ (dat0 m c).owesAt () t0_0.succ ∗
  (∃ f, ⌜f = (dat0 m c).after 0 t0_0⌝ ∗ (c : Thread nD τ).loc cc0_stg0_0 ↦{fullShare} f) ∗
  (∃ f, ⌜f = (dat0 m c).after 1 t0_0⌝ ∗ (c : Thread nD τ).loc cc0_stg1_0 ↦{fullShare} f) ∗
  (∃ f, ⌜f = (dat0 m c).after 2 t0_0⌝ ∗ (c : Thread nD τ).loc cc0_stg2_0 ↦{fullShare} f) ∗
  (∃ f, ⌜f = (dat0 m c).after 3 t0_0⌝ ∗ (c : Thread nD τ).loc cc0_stg3_0 ↦{fullShare} f) ∗
  (∃ f, ⌜f = (dat0 m c).after 4 t0_0⌝ ∗ (c : Thread nD τ).loc cc0_stg4_0 ↦{fullShare} f) ∗
  (∃ f, ⌜f = (dat0 m c).after 5 t0_0⌝ ∗ (c : Thread nD τ).loc cc0_stg5_0 ↦{fullShare} f))

/-- What the kernel leaves is what the call asks for. -/
theorem body_after (c : Dev nD) : LAST m c ⊢ AFT m c := by
  unfold AFT
  unfold LAST ST
  iintro ⟨HO, ⟨H0, H1, H2, H3, H4⟩, H5, HS, HZ⟩
  isplitl [HS HZ]; · isplitl [HZ] <;> iassumption
  isplitl [HO]; · iapply (owesAt_last m c succ_ne).1; iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-- What the call gives at its start. -/
def BEF (c : Dev nD) : sProp 𝕄 := iprop((OPEN m c ∗ SCR c) ∗ (dat0 m c).owesAt () t0_0.castSucc ∗
  (∃ d f, ⌜f = (dat0 m c).before 0 t0_0 d⌝ ∗ (c : Thread nD τ).loc cc0_stg0_0 ↦{fullShare} f) ∗
  (∃ d f, ⌜f = (dat0 m c).before 1 t0_0 d⌝ ∗ (c : Thread nD τ).loc cc0_stg1_0 ↦{fullShare} f) ∗
  (∃ d f, ⌜f = (dat0 m c).before 2 t0_0 d⌝ ∗ (c : Thread nD τ).loc cc0_stg2_0 ↦{fullShare} f) ∗
  (∃ d f, ⌜f = (dat0 m c).before 3 t0_0 d⌝ ∗ (c : Thread nD τ).loc cc0_stg3_0 ↦{fullShare} f) ∗
  (∃ d f, ⌜f = (dat0 m c).before 4 t0_0 d⌝ ∗ (c : Thread nD τ).loc cc0_stg4_0 ↦{fullShare} f) ∗
  (∃ d f, ⌜f = (dat0 m c).before 5 t0_0 d⌝ ∗ (c : Thread nD τ).loc cc0_stg5_0 ↦{fullShare} f))

theorem body_before (c : Dev nD) : BEF m c ⊢ BODY m c := by
  unfold BEF
  unfold BODY ST anyB
  iintro ⟨⟨HX, HS⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before_0] at h0; rw [before_1] at h1; rw [before_2] at h2; rw [before_3] at h3; rw [before_4] at h4
  subst h0 h1 h2 h3 h4
  isplitl [HX]; · iexact HX
  isplitl [HS]; · iexact HS
  isplitl [H5]; · iexists f5; iexact H5
  isplitr [HO]
  · isplitl [H0]; · iexact H0
    isplitl [H1]; · iexact H1
    isplitl [H2]; · iexact H2
    isplitl [H3]; · iexact H3
    iexact H4
  · iapply (owesAt_first m c (t := t0_0.castSucc) rfl).2; iexact HO

attribute [local irreducible] wp in
/-- What the call asks of the kernel. -/
theorem body_obligation (c : Dev nD) : Pipeline.BodyObligation (dat0 m c) (defs₀ (F := F)) 𝒱₀ () Set.univ := fun t => by
  obtain rfl := fin_N0 t
  rw [bigSep_W0, bigSep_W0]
  simp only [owns_whole_eq]
  rw [Φ_first m c (t := t0_0.castSucc) rfl, Φ_last m c succ_ne]
  rw [called]
  exact (body_before m c).trans ((body_open m c).trans (wp_mono _ _ _ fun _ => body_after m c))

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What a device owes at launch lies above every staging cell. -/
theorem mayWait_stage (c : Dev nD) (q : DmaSem sig) (hq : q.val < 37) (t : Fin (cfg0.N + 1)) :
    (levAts L lv : sProp 𝕄) ⊢ MayWait (c : Thread nD τ) (.dma q) () ((dat0 m c).owed t) :=
  mayWait fun g u h => by
    have hz : lvOf (.dma q : SemLoc sig) = 0 := if_pos hq
    rw [hz]
    rw [owed_at] at h
    split at h
    · rcases pos_add h with h | h
      · rcases pos_add h with h | h
        · have := pos_Oag h; exact ⟨this.1, by rw [this.2]; decide⟩
        · have := pos_Ors h; exact ⟨this.1, by rw [this.2]; decide⟩
      · have := pos_Obar h; exact ⟨this.1, by rw [this.2]; decide⟩
    · exact absurd h (Nat.lt_irrefl 0)

theorem stage_lt : ∀ (w : Fin 6) (s : Fin (spec0 w).nbuf), ((spec0 w).sem s).val < 37 := by decide

/-- The two buffers of the program's last line. -/
def S12 : Finset (DevRef τ sig) := {Proc.devRef .tc main_v1, Proc.devRef .tc main_v2}

theorem held12_eq (c : Dev nD) (W : Valuation τ sig (Elt F)) :
    (StableHlo.held (c : Thread nD τ) S12 W : sProp 𝕄) = iprop(wh c main_v1 (W main_v1) ∗ wh c main_v2 (W main_v2)) := by
  unfold StableHlo.held S12
  rw [bigSep_eq_bigSepL_of_eq [Proc.devRef .tc main_v1, Proc.devRef .tc main_v2] (by decide) (by decide)]
  rfl

/-- A device's buffers after the call. -/
abbrev Vr (c : Dev nD) : Valuation τ sig (Elt F) := Function.update (fun b => m ((c : Dev nD), b)) (Proc.devRef .tc main_v1) (OUT m c)
theorem Vr_v1 (c : Dev nD) : Vr m c main_v1 = OUT m c := Function.update_self ..
theorem Vr_v2 (c : Dev nD) : Vr m c main_v2 = m ((c : Thread nD τ).loc main_v2) := Function.update_of_ne (by decide) ..

/-- What rides beside the last line's buffers: the arguments as launched, the barrier cell's counter, nothing owed. -/
def rest (c : Dev nD) : sProp 𝕄 :=
  iprop((wh c main_arg0 (X m c) ∗ wh c main_arg1 (Wq m c) ∗ wh c main_arg4 (Wo m c) ∗ wh c main_arg2 (Wk m c) ∗ wh c main_arg3 (Wv m c))
    ∗ semVal (barCell c) 0 ∗ ow c 0)

theorem arrays_eq (c : Dev nD) (Fa) : ((pdats (F := F) m 0 c).arrays Fa : sProp 𝕄)
    = iprop(wh c main_arg0 (Fa 0) ∗ wh c main_arg1 (Fa 1) ∗ wh c main_arg4 (Fa 2) ∗ wh c main_arg2 (Fa 3) ∗ wh c main_arg3 (Fa 4) ∗ wh c main_v1 (Fa 5)) := by
  rw [Pipeline.arrays_eq (Pipeline.pin (pcfgs (F := F)) adm) (pdats m) 0 c launch0.arr_whole ((pdats m 0 c).share_full fun _ => rfl) Fa, bigSep_W0]

theorem SCR_eq (c : Dev nD) : (Pipeline.scopedRest (Ix := Unit) (Name := ℕ) (U := UU) (Lvl := ℕ) (Val := Elt F) spec0 c : sProp 𝕄) = SCR c := by
  rw [scopedRest0_eq]; unfold SCR anyB; rfl

theorem arrAt_arg (c : Dev nD) (w : Fin cfg0.W) (h : (cfg0.win w).isOut = false) :
    (pdats (F := F) m 0 c).arrAt w (Pipeline.pin (pcfgs (F := F)) adm 0).N = m ((cfg0.win w).arr.view.loc (c : Thread nD τ)) :=
  (dat0 m c).arrAt_in w h _

theorem arrAt_res (c : Dev nD) : (pdats (F := F) m 0 c).arrAt 5 (Pipeline.pin (pcfgs (F := F)) adm 0).N = OUT m c := arrAt_out m c

/-- The kernel's call. -/
def reg0 : ℝ𝕊 0 where
  win := launch0.win.to₀
  block_pos := launch0.block_pos
  stage_whole := launch0.stage_whole
  K := Fin 124
  osem := ownS
  ho := (by decide : Pipeline.OwnSemFacts spec0 ownS)
  hbody c := (body_obligation m c).loose
  hwaits c := Pipeline.cellsWaits_intro _ (pdats m) () 0 c fun w s t => mayWait_stage m c _ (stage_lt w s) t
  pre c := iprop(unscopedBufs c (fun b => m ((c : Thread nD τ).loc b)) ∗ KEEP m c ∗ ow c (O₀ c))
  post c := iprop(StableHlo.held (c : Thread nD τ) S12 (Vr m c) ∗ rest m c)
  X c := OPEN m c
  Y c := semVal (barCell c) 0
  Z c := Pipeline.unscopedRest (Ix := Unit) (Name := ℕ) (U := UU) (Lvl := ℕ) spec0 c (fun b => m ((c : Thread nD τ).loc b))
  hentry c := by
    have hsplit := Pipeline.arrays_of_unscopedBufs (pcfgs (F := F)) adm (pdats m) launch0.win launch0.arr_whole c
      ((pdats m 0 c).share_full fun _ => rfl) (fun b => m ((c : Thread nD τ).loc b)) fun _ => rfl
    iintro ⟨⟨Hub, HK, HO⟩, Hq, HL⟩
    ihave H := hsplit $$ Hub
    icases H with ⟨Ha, Hr⟩
    imod (open_all m c) $$ [HK Hq HL] with HX
    · iframe
    imodintro
    isplitl [Ha]; · iexact Ha
    isplitr; · unfold Pipeline.prefHeld; rw [show (Finset.univ : Finset (Fin 0)) = ∅ from rfl, BI.bigSep_empty]; iempintro
    isplitl [HO]
    · iapply (owesAt_first m c (t := 0) rfl).1; iexact HO
    isplitl [HX] <;> iassumption
  hin c := by
    rw [show (pdats m 0 c).Φ 0 = iprop(OPEN m c ∗ SCR c) from Φ_first m c rfl, show (Pipeline.pin (pcfgs (F := F)) adm 0).spec = spec0 from rfl, SCR_eq]
    iintro ⟨HX, -, Hs⟩
    isplitl [HX] <;> iassumption
  hout c := by
    rw [show (pdats m 0 c).Φ (Fin.last _) = iprop(ZERO c ∗ SCR c) from Φ_last m c last_ne, show (Pipeline.pin (pcfgs (F := F)) adm 0).spec = spec0 from rfl, SCR_eq]
    unfold ZERO
    iintro ⟨⟨Hb, Hq⟩, Hs⟩
    isplitl [Hb]; · iexact Hb
    isplitl [Hq] <;> iassumption
  hexit c := by
    unfold rest
    rw [arrays_eq, unscopedRest0_eq, held12_eq, arrAt_arg m c 0 rfl, arrAt_arg m c 1 rfl, arrAt_arg m c 2 rfl, arrAt_arg m c 3 rfl, arrAt_arg m c 4 rfl,
      arrAt_res, Vr_v1, Vr_v2]
    iintro ⟨⟨H0, H1, H2, H3, H4, H5⟩, HO, Hb, Hr⟩
    imodintro
    isplitl [H5 Hr]
    · isplitl [H5] <;> iassumption
    isplitl [H0 H1 H2 H3 H4]
    · isplitl [H0]; · iexact H0
      isplitl [H1]; · iexact H1
      isplitl [H2]; · iexact H2
      isplitl [H3]; · iexact H3
      iexact H4
    isplitl [Hb]; · iexact Hb
    iapply (owesAt_last m c last_ne).2; iexact HO

theorem ops1_sub : ∀ op ∈ (hostOps1 : List (HloOp τ sig (Elt F))), op.bufs ⊆ S12 := fun op h => by
  obtain rfl := List.mem_singleton.mp h
  show ({Proc.devRef .tc main_v1, Proc.devRef .tc main_v2} : Finset (DevRef τ sig)) ⊆ S12; decide
theorem ops1_fresh : ∀ op ∈ (hostOps1 : List (HloOp τ sig (Elt F))), op.fresh = ∅ := fun op h => by
  obtain rfl := List.mem_singleton.mp h; rfl
/-- The program's last line, the result in its own shape. -/
def seg1 : ℍ := Pipeline.HostSeg.ofOps _ _ _ _ _ S12 (hostOps1 (F := F)) ops1_sub ops1_fresh (Vr m) (rest m)

/-- The program as the two. -/
def segs : List (Pipeline.Seg (pcfgs (F := F)) adm (pdats m) () defs₀ 𝒱₀ L lv) := [.region (reg0 m), .host (seg1 m)]

theorem main_eq (c : Dev nD) : main (F := F) c = Pipeline.Seg.run (segs m) := main_segs adm (pdats m) () 𝒱₀ L lv (seg1 m) (reg0 m) rfl c

/-- The result on device `c`. -/
def RES (c : Dev nD) : Vec F S4x256x1024 .f32 := shapeCast S4x256x1024 (OUT m c) shapeCasts_S1024x1024_S4x256x1024

theorem after_v2 (c : Dev nD) : StableHlo.after (hostOps1 (F := F)) (Vr m c) main_v2 = RES m c := by
  show StableHlo.after (hostOps1 (F := F)) (Vr m c) (Proc.devRef .tc main_v2) = _
  rw [StableHlo.after_cons, StableHlo.after_nil]
  rfl

end Region

end Cert.Attn

end
-- ==== Proof.Run.lean ====
/-
The launch: what each device starts with, and the run of the whole program.
-/
module

public import proofs.«01_k».proof.Proof.Region

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Run

variable (ρ : Dev nD → PrngReg)

/-! ## Cells and tokens at launch -/

theorem dma_ne_bar (q : DmaSem sig) : (SemLoc.dma q : SemLoc sig) ≠ .reg barS := nofun

theorem disjoint_cells : Disjoint (barCells : Finset (GSem nD τ sig)) dmaCells := by
  refine Finset.disjoint_left.mpr fun g h₁ h₂ => ?_
  obtain ⟨c, -, rfl⟩ := Finset.mem_map.mp h₁
  obtain ⟨p, -, h⟩ := Finset.mem_map.mp h₂
  exact dma_ne_bar _ (congrArg (fun g : GSem nD τ sig => g.2) h)

/-- The token of each barrier cell's duties, and of each transfer cell's only duty. -/
def barTok : Dev nD × Fin 31 ↪ GSem nD τ sig × ℕ × ℕ :=
  ⟨fun p => (barCell p.1, 0, p.2.val), fun _ _ h => Prod.ext (barEmb.injective (congrArg Prod.fst h)) (Fin.ext (congrArg (fun t => t.2.2) h))⟩
def dmaTok : GSem nD τ sig ↪ GSem nD τ sig × ℕ × ℕ := ⟨fun g => (g, 0, 0), fun _ _ h => congrArg Prod.fst h⟩
def toks : Finset (GSem nD τ sig × ℕ × ℕ) := Finset.univ.map barTok ∪ dmaCells.map dmaTok

theorem disjoint_toks : Disjoint (Finset.univ.map barTok) (dmaCells.map dmaTok) := by
  refine Finset.disjoint_left.mpr fun t h₁ h₂ => ?_
  obtain ⟨p, -, rfl⟩ := Finset.mem_map.mp h₁
  obtain ⟨g, hg, h⟩ := Finset.mem_map.mp h₂
  obtain ⟨q, -, rfl⟩ := Finset.mem_map.mp hg
  exact dma_ne_bar _ (congrArg (fun t : GSem nD τ sig × ℕ × ℕ => t.1.2) h)

/-- The launch element: the pipeline library's part and the protocol's. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- The protocol's launch element, kept with the first device. -/
def G (c : Dev nD) : sProp 𝕄 := if c = 0 then BI.own (ER (launchOf barCells dmaCells toks)) else iprop(emp)

theorem G_all : bigSep Finset.univ (G (F := F)) = BI.own (ER (launchOf barCells dmaCells toks)) := by
  have h : bigSep (Finset.univ.erase (0 : Dev nD)) (G (F := F)) = bigSep (Finset.univ.erase (0 : Dev nD)) fun _ => (BI.emp : sProp 𝕄) :=
    bigSep_congr fun c hc => if_neg (Finset.ne_of_mem_erase hc)
  rw [bigSep_univ_at _ (0 : Dev nD), h, BI.bigSep_emp_const, show G (F := F) 0 = _ from if_pos rfl]
  exact BI.equiv_iff.mp sep_emp

/-- A family over the devices and steps, each member moved to the device that sends there. -/
theorem around (f : Dev nD → ℕ → sProp 𝕄) : (bigSep Finset.univ fun c => bigSep (Finset.Ico 0 31) fun k => f c k)
    = bigSep Finset.univ fun c => bigSep (Finset.Ico 0 31) fun k => f (peer c k) k := by
  rw [bigSep_congr fun c _ => (fam_fin (n := 31) fun k => f c k).symm, bigSep_univ_comm,
    bigSep_congr fun n _ => bigSep_univ_equiv (ring n) fun c => f c n.val, bigSep_univ_comm]
  exact bigSep_congr fun c _ => fam_fin (n := 31) fun k => f (peer c k) k

theorem bigSep_both {I : Type} [DecidableEq I] {S : Finset I} {Φ Ψ : I → sProp 𝕄} : iprop(bigSep S Φ ∗ bigSep S Ψ) ⊢ bigSep S fun i => iprop(Φ i ∗ Ψ i) :=
  Entails.of_eq (bigSep_sep' S Φ Ψ).symm
theorem toks_eq : bigSep toks (fun x => (dutyTok ER x.1 x.2.1 x.2.2 : sProp 𝕄))
    = iprop((bigSep Finset.univ fun c : Dev nD => bigSep Finset.univ fun d : Fin 31 => dutyTok ER (barCell c) 0 d.val)
      ∗ bigSep Finset.univ fun c : Dev nD => bigSep Finset.univ fun q : Fin 124 => dutyTok ER (((c : Thread nD τ), ownS q) : GSem nD τ sig) 0 0) := by
  unfold toks
  rw [bigSep_union disjoint_toks, bigSep_map, bigSep_map, bigSep_map, bigSep_univ_prod, bigSep_univ_prod]
  rfl

/-- Every token with the device that pays its duty. -/
theorem toks_around : bigSep toks (fun x => (dutyTok ER x.1 x.2.1 x.2.2 : sProp 𝕄)) ⊢ bigSep Finset.univ fun c : Dev nD => iprop(TB c ∗ TR c ∗ TG c) := by
  have hB : (bigSep Finset.univ fun c : Dev nD => bigSep Finset.univ fun d : Fin 31 => (dutyTok ER (barCell c) 0 d.val : sProp 𝕄))
      = bigSep Finset.univ fun c => TB (F := F) c := by
    rw [bigSep_congr fun (c : Dev nD) _ => (fam_fin (n := 31) fun k => (dutyTok ER (barCell c) 0 k : sProp 𝕄)).trans (fam_rev _),
      around fun c k => dutyTok ER (barCell c) 0 (30 - k)]
    exact bigSep_congr fun c _ => by unfold TB; rfl
  have hD : (bigSep Finset.univ fun c : Dev nD => bigSep Finset.univ fun q : Fin 124 => (dutyTok ER (((c : Thread nD τ), ownS q) : GSem nD τ sig) 0 0 : sProp 𝕄))
      ⊢ bigSep Finset.univ fun c => iprop(TR (F := F) c ∗ TG c) := by
    rw [bigSep_congr fun (c : Dev nD) _ => fam_all fun sm => (dutyTok ER (((c : Thread nD τ), sm) : GSem nD τ sig) 0 0 : sProp 𝕄)]
    unfold famOf TR TG
    simp only [Finset.range_eq_Ico, bigSep_sep']
    rw [around fun c k => (dutyTok ER (rsRecvC c k) 0 0 : sProp 𝕄), around fun c k => (dutyTok ER (agRecvC c k) 0 0 : sProp 𝕄)]
    iintro ⟨H1, H2, H3, H4⟩
    isplitl [H1 H2]
    · isplitl [H1] <;> iassumption
    isplitl [H3] <;> iassumption
  rw [toks_eq, hB]
  iintro ⟨H1, H2⟩
  ihave H3 := hD $$ H2
  iapply bigSep_both
  isplitl [H1] <;> iassumption

/-! ## The launch credit -/

theorem sum_at {S : Finset ℕ} {f : ℕ → GSem nD τ sig} {v : ℕ} {g : GSem nD τ sig} :
    (∑ k ∈ S, (tallyAt (f k) () v : CellTallies nD τ sig Unit)) g () = ∑ k ∈ S, if g = f k then v else 0 := by
  induction S using Finset.induction_on with
  | empty => rfl
  | insert a S ha ih =>
    rw [Finset.sum_insert ha, Finset.sum_insert ha, Pi.add_apply, Finsupp.add_apply, tallyAt_apply, ih]
    simp only [and_true]

/-- What all devices together owe a cell in one of the three families. -/
theorem total (s : ℕ → SemLoc sig) (v : ℕ) (c : Dev nD) (sm : SemLoc sig) :
    ∑ d : Dev nD, (∑ k ∈ Finset.Ico 0 31, (tallyAt (((peer d k : Dev nD) : Thread nD τ), s k) () v : CellTallies nD τ sig Unit)) ((c : Thread nD τ), sm) ()
      = ∑ k ∈ Finset.Ico 0 31, if sm = s k then v else 0 := by
  rw [Finset.sum_congr rfl fun d _ => sum_at, Finset.sum_comm]
  refine Finset.sum_congr rfl fun k hk => ?_
  have hk31 : k < 31 := (Finset.mem_Ico.mp hk).2
  rw [Finset.sum_eq_single (back c k)]
  · rw [peer_back c hk31]
    by_cases h : sm = s k
    · rw [if_pos h, if_pos (by rw [h])]
    · rw [if_neg h, if_neg fun e => h (congrArg Prod.snd e)]
  · intro d _ hd
    refine if_neg fun e => hd ?_
    have hc : c = peer d k := congrArg (fun g : GSem nD τ sig => g.1.1) e
    rw [hc, back_peer d hk31]
  · exact fun h => absurd (Finset.mem_univ _) h

theorem owed_all (c : Dev nD) (sm : SemLoc sig) : ∑ d : Dev nD, O₀ d ((c : Thread nD τ), sm) ()
    = (∑ k ∈ Finset.Ico 0 31, if sm = .dma (agRecvS k) then N else 0) + (∑ k ∈ Finset.Ico 0 31, if sm = .dma (rsRecvS k) then N else 0)
      + ∑ k ∈ Finset.Ico 0 31, if sm = .reg barS then 1 else 0 := by
  rw [← total (fun k => .dma (agRecvS k)) N c sm, ← total (fun k => .dma (rsRecvS k)) N c sm, ← total (fun _ => .reg barS) 1 c sm,
    ← Finset.sum_add_distrib, ← Finset.sum_add_distrib]
  exact Finset.sum_congr rfl fun d _ => by
    unfold O₀ Oag Ors Obar
    rw [Pi.add_apply, Finsupp.add_apply, Pi.add_apply, Finsupp.add_apply]

theorem one_of {s : ℕ → DmaSem sig} {n : ℕ} (hn : n < 31) (h : ∀ k < 31, s n = s k → n = k) :
    (∑ k ∈ Finset.Ico 0 31, if (SemLoc.dma (s n) : SemLoc sig) = .dma (s k) then N else 0) = N := by
  rw [Finset.sum_eq_single n]
  · exact if_pos rfl
  · exact fun k hk hne => if_neg fun e => hne (h k (Finset.mem_Ico.mp hk).2 (SemLoc.dma.inj e)).symm
  · exact fun e => absurd (Finset.mem_Ico.mpr ⟨Nat.zero_le _, hn⟩) e
theorem none_of {s : ℕ → SemLoc sig} {sm : SemLoc sig} {v : ℕ} (h : ∀ k < 31, sm ≠ s k) :
    (∑ k ∈ Finset.Ico 0 31, if sm = s k then v else 0) = 0 :=
  Finset.sum_eq_zero fun k hk => if_neg (h k (Finset.mem_Ico.mp hk).2)

theorem rs_ne_ag (n k : ℕ) : (SemLoc.dma (rsRecvS n) : SemLoc sig) ≠ .dma (agRecvS k) := fun e => by
  have h : 37 + (30 - n) = 99 + (30 - k) := congrArg Fin.val (SemLoc.dma.inj e)
  omega

theorem owed_bar (c : Dev nD) : ∑ d : Dev nD, O₀ d (barCell c) () = 31 := by
  rw [owed_all, none_of fun _ _ e => dma_ne_bar _ e.symm, none_of fun _ _ e => dma_ne_bar _ e.symm, Finset.sum_congr rfl fun _ _ => if_pos rfl]
  rfl
theorem owed_rs (c : Dev nD) {n : ℕ} (hn : n < 31) : ∑ d : Dev nD, O₀ d (rsRecvC c n) () = N := by
  have h1 := one_of (s := rsRecvS) hn fun k hk e => by
    have h : 37 + (30 - n) = 37 + (30 - k) := congrArg Fin.val e
    omega
  rw [owed_all, none_of fun k _ => rs_ne_ag n k, none_of fun _ _ => dma_ne_bar _, h1, zero_add, add_zero]
theorem owed_ag (c : Dev nD) {n : ℕ} (hn : n < 31) : ∑ d : Dev nD, O₀ d (agRecvC c n) () = N := by
  have h1 := one_of (s := agRecvS) hn fun k hk e => by
    have h : 99 + (30 - n) = 99 + (30 - k) := congrArg Fin.val e
    omega
  rw [owed_all, none_of fun k _ e => rs_ne_ag k n e.symm, none_of fun _ _ => dma_ne_bar _, h1, add_zero, add_zero]

theorem launch_at {g : GSem nD τ sig} {v : ℕ} (h : ∑ d : Dev nD, O₀ d g () = v) :
    tallyOn g (launchCredit (Pipeline.owing O₀) 0 g) = (tallyAt g () v : CellTallies nD τ sig Unit) := by
  unfold tallyAt
  refine congrArg _ (Finsupp.ext fun u => ?_)
  cases u
  rw [Pipeline.launchCredit_owing, Finsupp.single_eq_same, h]

theorem creds (c : Dev nD) : (Pipeline.launchCred O₀ c : sProp 𝕄) ⊢ iprop(cred (tallyAt (barCell c) () 31) ∗ CR c rsRecvS ∗ CR c agRecvS) := by
  unfold Pipeline.launchCred
  rw [bigSep_univ_at _ (SemLoc.reg barS), launch_at (owed_bar c)]
  refine sep_mono_right ?_
  refine (bigSep_subset (t := Finset.univ.map ⟨ownS, ownS_inj⟩) ?_).trans ?_
  · intro sm h
    obtain ⟨q, -, rfl⟩ := Finset.mem_map.mp h
    exact Finset.mem_erase.mpr ⟨dma_ne_bar _, Finset.mem_univ _⟩
  · rw [bigSep_map]
    refine (Entails.of_eq (fam_all fun sm => (cred (tallyOn ((c : Thread nD τ), sm) (launchCredit (Pipeline.owing O₀) 0 ((c : Thread nD τ), sm))) : sProp 𝕄))).trans ?_
    unfold famOf CR
    rw [bigSep_congr (s := Finset.range 31) fun k hk => congrArg (fun t => (cred t : sProp 𝕄)) (launch_at (owed_rs c (Finset.mem_range.mp hk))),
      bigSep_congr (s := Finset.range 31) fun k hk => congrArg (fun t => (cred t : sProp 𝕄)) (launch_at (owed_ag c (Finset.mem_range.mp hk)))]
    iintro ⟨-, H1, -, H2⟩
    isplitl [H1] <;> iassumption

/-! ## The run -/

abbrev T₀ (c : Dev nD) : sProp 𝕄 := iprop(unscopedBufs c (fun b => m ((c : Thread nD τ).loc b)) ∗ KEEP m c ∗ ow c (O₀ c))
abbrev Tₙ (c : Dev nD) : sProp 𝕄 := iprop((wh c main_v1 (StableHlo.after (hostOps1 (F := F)) (Vr m c) main_v1) ∗ wh c main_v2 (RES m c))
  ∗ (wh c main_arg0 (X m c) ∗ wh c main_arg1 (Wq m c) ∗ wh c main_arg4 (Wo m c) ∗ wh c main_arg2 (Wk m c) ∗ wh c main_arg3 (Wv m c)) ∗ semVal (barCell c) 0)

/-- What every device knows, what a device holds of the protocol, and what it holds beside. -/
def known (K : GSem nD τ sig → ℕ) : sProp 𝕄 := iprop(invs m K ∗ bigSep Finset.univ fun d : Dev nD => reached ER (barCell d) 0)
instance known_persistent (K : GSem nD τ sig → ℕ) : BI.Persistent (known m K) := by unfold known; infer_instance
def held (c : Dev nD) : sProp 𝕄 :=
  iprop(atPos ER (barCell c) 0 ∅ 0 ∗ (bigSep Finset.univ fun q : Fin 124 => openTok ER (((c : Thread nD τ), ownS q) : GSem nD τ sig)) ∗ (TB c ∗ TR c ∗ TG c))
def beside (c : Dev nD) : sProp 𝕄 :=
  iprop(unscopedBufs c (fun b => m ((c : Thread nD τ).loc b)) ∗ (cred (tallyAt (barCell c) () 31) ∗ CR c rsRecvS ∗ CR c agRecvS) ∗ owes (c : Thread nD τ) (O₀ c) ∅)

theorem T₀_intro (K : GSem nD τ sig → ℕ) (c : Dev nD) : iprop(known m K ∗ (held c ∗ beside m c)) ⊢ T₀ m c := by
  unfold known held beside T₀ KEEP Bar0 ow
  iintro ⟨⟨#HI, #HR⟩, ⟨HA, HQ, HT⟩, HB, ⟨H1, H2, H3⟩, HO⟩
  isplitl [HB]; · iexact HB
  isplitr [HO]
  · isplitr; · iexists K; iexact HI
    isplitr; · iexact HR
    isplitl [H1 HA]; · isplitl [H1] <;> iassumption
    isplitl [HQ]; · iexact HQ
    isplitl [HT]; · iexact HT
    isplitl [H2] <;> iassumption
  iexists ∅; iexact HO

theorem bar_only (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem over_bar (Φ : GSem nD τ sig → sProp 𝕄) : bigSep barCells Φ = bigSep Finset.univ fun c : Dev nD => Φ (barCell c) := bigSep_map (s := Finset.univ) barEmb (Φ := Φ)
theorem over_dma (Φ : GSem nD τ sig → sProp 𝕄) : bigSep dmaCells Φ = bigSep Finset.univ fun c : Dev nD => bigSep Finset.univ fun q : Fin 124 => Φ ((c : Thread nD τ), ownS q) := by
  rw [bigSep_map, bigSep_univ_prod]; rfl

/-- What the launch gives one device. -/
def given (c : Dev nD) : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ G c)

theorem given_split (c : Dev nD) : given m ρ c ⊢ (iprop(beside m c ∗ (semVal (barCell c) 0 ∗ G c)) : sProp 𝕄) := by
  unfold given beside
  rw [bar_only]
  iintro ⟨Hb, Hs, HO, Hc, -, HG⟩
  ihave Hc := (creds (F := F) c) $$ Hc
  isplitr [Hs HG]
  · isplitl [Hb]; · iexact Hb
    isplitl [Hc] <;> iassumption
  isplitl [Hs] <;> iassumption

/-- The cells funded: the invariants, the records, the positions, the rights to open, the tokens. -/
theorem funded : iprop((bigSep Finset.univ fun c : Dev nD => semVal (barCell c) 0) ∗ BI.own (ER (launchOf barCells dmaCells toks)))
    ⊢ (|={Set.univ}=> iprop(∃ K : GSem nD τ sig → ℕ, (bigSep (barCells ∪ dmaCells) fun g => cellInv ER (Rd m) (K g) g)
      ∗ bigSep barCells (fun g => reached ER g 0) ∗ bigSep barCells (fun g => atPos ER g 0 ∅ 0) ∗ bigSep dmaCells (fun g => openTok ER g)
      ∗ bigSep toks fun x => dutyTok ER x.1 x.2.1 x.2.2) : sProp 𝕄) := by
  rw [← over_bar (F := F) fun g => semVal g 0]
  iintro ⟨Hv, Hu⟩
  imod (Rounds.fund_launch ER (Rd m) disjoint_cells (fun g _ h => h) toks) $$ [Hv Hu] with ⟨%K, -, Hinv, Hr, Hat, Hopen, Htok⟩
  · isplitl [Hv] <;> iassumption
  imodintro
  iexists K
  isplitl [Hinv]; · iexact Hinv
  isplitl [Hr]; · iexact Hr
  isplitl [Hat]; · iexact Hat
  isplitl [Hopen] <;> iassumption

theorem funded_known (K : GSem nD τ sig → ℕ) : iprop((bigSep (barCells ∪ dmaCells) fun g => cellInv ER (Rd m) (K g) g) ∗ bigSep barCells (fun g => reached ER g 0))
    ⊢ known m K := by
  rw [over_bar (F := F) fun g => reached ER g 0]
  unfold known invs
  exact Entails.refl _

theorem funded_held : iprop(bigSep barCells (fun g => atPos ER g 0 ∅ 0) ∗ bigSep dmaCells (fun g => openTok ER g) ∗ bigSep toks fun x => dutyTok ER x.1 x.2.1 x.2.2)
    ⊢ bigSep Finset.univ (held (F := F)) := by
  rw [over_bar (F := F) fun g => atPos ER g 0 ∅ 0, over_dma (F := F) fun g => openTok ER g]
  unfold held
  iintro ⟨Hat, Hopen, Htok⟩
  ihave Ht := (toks_around (F := F)) $$ Htok
  simp only [bigSep_sep']
  isplitl [Hat]; · iexact Hat
  isplitl [Hopen] <;> iassumption

theorem given_all : (bigSep Finset.univ fun c : Dev nD => given m ρ c)
    ⊢ iprop((bigSep Finset.univ fun c => beside m c) ∗ (bigSep Finset.univ fun c : Dev nD => semVal (barCell c) 0) ∗ BI.own (ER (launchOf barCells dmaCells toks))) := by
  rw [← G_all, ← bigSep_sep', ← bigSep_sep']
  exact bigSep_mono fun c _ => given_split m ρ c

theorem init : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ (T₀ m) : sProp 𝕄) := by
  show iprop((bigSep Finset.univ fun c : Dev nD => given m ρ c) ∗ levAts L lv) ⊢ _
  iintro ⟨H, -⟩
  ihave H1 := (given_all m ρ) $$ H
  icases H1 with ⟨HB, H2⟩
  imod (funded m) $$ H2 with ⟨%K, Hinv, Hr, H3⟩
  ihave #Hk := (funded_known m K) $$ [Hinv Hr]
  · isplitl [Hinv] <;> iassumption
  ihave Hh := (funded_held (F := F)) $$ H3
  imodintro
  iapply (bigSep_with_persistent (R := known m K) (Φ := fun c => iprop(held c ∗ beside m c)) fun c _ => T₀_intro m K c)
  isplitr; · iexact Hk
  iapply (bigSep_both (Φ := fun c => held (F := F) c) (Ψ := fun c => beside m c))
  isplitl [Hh]; · iexact Hh
  iexact HB

theorem unscoped_eq : ∀ sm : SemLoc sig, sm.isScoped .tc = false → sm = .reg barS := by decide +kernel

set_option backward.isDefEq.respectTransparency.types false in
/-- Every execution ends with the arguments as they were, the result in its buffer, and every semaphore at zero. -/
theorem run_main : θ_run defs (onTc (τ := τ) (main (F := F))) (s₀ m ρ)
    (fun r => (∀ c : Dev nD, (r.2.mem ((c : Thread nD τ).loc main_arg0) = X m c ∧ r.2.mem ((c : Thread nD τ).loc main_arg1) = Wq m c
        ∧ r.2.mem ((c : Thread nD τ).loc main_arg4) = Wo m c ∧ r.2.mem ((c : Thread nD τ).loc main_arg2) = Wk m c
        ∧ r.2.mem ((c : Thread nD τ).loc main_arg3) = Wv m c) ∧ r.2.mem ((c : Thread nD τ).loc main_v2) = RES m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => .rfl, fun c => ?_⟩
      show iprop(StableHlo.held (c : Thread nD τ) S12 (StableHlo.after (hostOps1 (F := F)) (Vr m c)) ∗ rest m c)
        ⊢ iprop(Tₙ m c ∗ ∃ W, owes (c : Thread nD τ) (0 : CellTallies nD τ sig Unit) W)
      unfold rest ow Tₙ
      rw [held12_eq, after_v2]
      iintro ⟨H1, H2, H3, H4⟩
      isplitr [H4]
      · isplitl [H1]; · iexact H1
        isplitl [H2] <;> iassumption
      iexact H4)
    (hinit := init m ρ)
    (QY := fun c s => ((s.mem ((c : Thread nD τ).loc main_arg0) = X m c ∧ s.mem ((c : Thread nD τ).loc main_arg1) = Wq m c
        ∧ s.mem ((c : Thread nD τ).loc main_arg4) = Wo m c ∧ s.mem ((c : Thread nD τ).loc main_arg2) = Wk m c
        ∧ s.mem ((c : Thread nD τ).loc main_arg3) = Wv m c) ∧ s.mem ((c : Thread nD τ).loc main_v2) = RES m c) ∧ s.sem (barCell c) = 0)
    (hfin := fun c s' => by
      dsimp only [Tₙ]
      iintro ⟨⟨⟨-, Hv⟩, ⟨H0, H1, H2, H3, H4⟩, Hb⟩, HSI⟩
      icombine HSI Hv gives %hv
      icombine HSI H0 gives %h0
      icombine HSI H1 gives %h1
      icombine HSI H2 gives %h2
      icombine HSI H3 gives %h3
      icombine HSI H4 gives %h4
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4⟩, Buf.eq_of_forall_mem_univ hv⟩, by simpa using hb⟩
      iexact HSI)
    (hQ := fun s h hs => ⟨fun c => (h c).1,
      sem_eq_zero hs fun c sm hsm => by
        obtain rfl := unscoped_eq sm hsm
        exact (h c).2⟩)

end Run

end Cert.Attn

end
-- ==== Proof.Frames.lean ====
/-
The frames of the kernel and of its ideal reading, from one run of the program over any float values.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Attn

open Idealize.ShloMosaic Idealize.ShloMosaic.TcCoe Idealize.SL.Sem

variable {F : FTy → Type} [FloatOps F]

set_option maxRecDepth 100000 in
/-- The two programs have the same kernel body. -/
theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- So they have the same table of definitions. -/
theorem defs_same : Cert.Kernel.defs (F := F) = Cert.KernelIdeal.defs (F := F) := by
  unfold Cert.Kernel.defs Cert.KernelIdeal.defs
  rw [bodies_same]
  rfl

/-- A run of the ideal program's text over any float values is one of the kernel's. -/
theorem run_same (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_same]; exact h

/-- The kernel's frame at the ideal instance. -/
theorem frame_ideal : Cert.quiescent_KernelIdeal := fun m ρ _ =>
  (θ_run Cert.KernelIdeal.defs _ _).mono (fun _ h =>
    ⟨fun c => ⟨(h.1 c).1.1, (h.1 c).1.2.1, (h.1 c).1.2.2.2.1, (h.1 c).1.2.2.2.2, (h.1 c).1.2.2.1⟩, h.2⟩) (run_main (F := Ideal) m ρ)

/-- The kernel's frame over the float words: the program has the same text. -/
theorem frame_kernel : Cert.quiescent_Kernel := fun m ρ _ =>
  run_same m ρ _ ((θ_run Cert.KernelIdeal.defs _ _).mono (fun _ h =>
    ⟨fun c => ⟨(h.1 c).1.1, (h.1 c).1.2.1, (h.1 c).1.2.2.2.1, (h.1 c).1.2.2.2.2, (h.1 c).1.2.2.1⟩, h.2⟩) (run_main (F := Bits) m ρ))

/-- The reference's frame: it has no semaphore. -/
theorem frame_ref : Cert.quiescent_ReferenceIdeal := fun m ρ _ =>
  (θ_run Cert.ReferenceIdeal.defs _ _).mono (fun r h =>
    ⟨fun c => (h c).2, sem_eq_zero_of_no_sems (by decide) r.2⟩) (Cert.ReferenceIdeal.Value.run (F := Ideal) m ρ)

end Cert.Attn

end
-- ==== Proof.Math.lean ====
/-
The kernel's values over the extended reals: what one device's blocks, sums and results are at an index.
-/
module

public import proofs.«01_k».proof.Proof.Common
public import Idealize.ShloMosaic.Lib.Pointwise

@[expose] public section

noncomputable section

namespace Cert.Attn

open Cert.KernelIdeal Cert.KernelIdeal.Gen
open Idealize.ShloMosaic Idealize.ShloMosaic.TcCoe

/-! ## The mathematics of one head -/

/-- The scale of the scores, and the value that a row's maximum starts from. -/
abbrev scaleE : EReal := Ideal.ofBits .f32 0x3DB504F3#32
abbrev lowE : EReal := Ideal.ofBits .f32 0xFF800000#32

/-- The scaled scores, their row's maximum, and the exponentials that the softmax sums. -/
def scoreE (Q K : Fin 256 → Fin 128 → EReal) (i j : Fin 256) : EReal := (∑ d, Q i d * K j d) * scaleE
def maxE (Q K : Fin 256 → Fin 128 → EReal) (i : Fin 256) : EReal := Finset.fold max lowE (fun j => scoreE Q K i j) Finset.univ
def expE (Q K : Fin 256 → Fin 128 → EReal) (i j : Fin 256) : EReal := Ideal.exp (scoreE Q K i j - maxE Q K i)
/-- One head's attention. -/
def headE (Q K V : Fin 256 → Fin 128 → EReal) (i : Fin 256) (d : Fin 128) : EReal :=
  Ideal.div (∑ j, expE Q K i j * V j d) (∑ j, expE Q K i j)

/-- A projection of the activations: batch `b`, position `s`, column `n` of the whole weight. -/
def projE (x : S4x256x1024.Idx → EReal) (w : (⟨2, ![1024, 32768]⟩ : Shape).Idx → EReal) (b : Fin 4) (s : Fin 256) (n : Fin 32768) : EReal :=
  ∑ k : Fin 1024, x (ix3 b s k) * w (ix2 k n)

/-- The columns of head `h`. -/
def colE (h : Fin 256) (d : Fin 128) : Fin 32768 := ⟨128 * h.val + d.val, by omega⟩

/-- The attention of all heads: batch `b`, position `s`, column `n`. -/
def attE (x : S4x256x1024.Idx → EReal) (wq wk wv : (⟨2, ![1024, 32768]⟩ : Shape).Idx → EReal) (b : Fin 4) (s : Fin 256) (n : Fin 32768) : EReal :=
  headE (fun i d => projE x wq b i (colE ⟨n.val / 128, by omega⟩ d)) (fun i d => projE x wk b i (colE ⟨n.val / 128, by omega⟩ d))
    (fun i d => projE x wv b i (colE ⟨n.val / 128, by omega⟩ d)) s ⟨n.val % 128, by omega⟩

/-- The result: batch `b`, position `s`, column `l`. -/
def resE (x : S4x256x1024.Idx → EReal) (wq wk wv : (⟨2, ![1024, 32768]⟩ : Shape).Idx → EReal)
    (wo : (⟨2, ![32768, 1024]⟩ : Shape).Idx → EReal) (b : Fin 4) (s : Fin 256) (l : Fin 1024) : EReal :=
  ∑ n : Fin 32768, attE x wq wk wv b s n * wo (ix2 n l)

/-! ## The payloads at an index -/

set_option maxRecDepth 16384

theorem pay2_apply (x : FVec Ideal S4x256x1024 .f32) (w : FVec Ideal S1024x1024 .f32) (r : Fin 1024) (n : Fin 1024) :
    k0_pay2 x w (ix2 r n) = ∑ k : Fin 1024, x (ix3 ⟨r.val / 256, by omega⟩ ⟨r.val % 256, by omega⟩ k) * w (ix2 k n) := by
  pointwise [k0_pay2, k0_pay1]
theorem pay3_apply (x : FVec Ideal S4x256x1024 .f32) (w : FVec Ideal S1024x1024 .f32) (r : Fin 1024) (n : Fin 1024) :
    k0_pay3 x w (ix2 r n) = ∑ k : Fin 1024, x (ix3 ⟨r.val / 256, by omega⟩ ⟨r.val % 256, by omega⟩ k) * w (ix2 k n) := by
  pointwise [k0_pay3, k0_pay1]
theorem pay4_apply (x : FVec Ideal S4x256x1024 .f32) (w : FVec Ideal S1024x1024 .f32) (r : Fin 1024) (n : Fin 1024) :
    k0_pay4 x w (ix2 r n) = ∑ k : Fin 1024, x (ix3 ⟨r.val / 256, by omega⟩ ⟨r.val % 256, by omega⟩ k) * w (ix2 k n) := by
  pointwise [k0_pay4, k0_pay1]

theorem blkOff_row {n : ℕ} (i : Fin 256) : blkOff n 0 + i.val < 1024 := by have := i.isLt; simp [blkOff]; omega
theorem blkOff_col {n : ℕ} (d : Fin 128) : blkOff n 1 + d.val < 1024 := by have := d.isLt; simp [blkOff]; omega

/-- A block of the attention scratch is one head's attention. -/
theorem headBlk_apply (q k v : FVec Ideal S1024x1024 .f32) (n : ℕ) (i : Fin 256) (d : Fin 128) :
    headBlk q k v n (ix2 i d)
      = headE (fun i d => q (ix2 ⟨blkOff n 0 + i.val, blkOff_row i⟩ ⟨blkOff n 1 + d.val, blkOff_col d⟩))
          (fun i d => k (ix2 ⟨blkOff n 0 + i.val, blkOff_row i⟩ ⟨blkOff n 1 + d.val, blkOff_col d⟩))
          (fun i d => v (ix2 ⟨blkOff n 0 + i.val, blkOff_row i⟩ ⟨blkOff n 1 + d.val, blkOff_col d⟩)) i d := by
  pointwise [headBlk]
  rfl

theorem pay67_apply (a w : FVec Ideal S1024x1024 .f32) (r : Fin 1024) (n : Fin 1024) :
    k0_pay67 a w (ix2 r n) = ∑ k : Fin 1024, a (ix2 r k) * w (ix2 k n) := by
  pointwise [k0_pay67, k0_pay66]
/-- The copy in the exchange's format has the same values. -/
theorem pay68_eq (a w : FVec Ideal S1024x1024 .f32) (j : S1024x1024.Idx) : (k0_pay68 (F := Ideal) a w j : EReal) = k0_pay67 (F := Ideal) a w j := by
  pointwise [k0_pay68, k0_pay67, k0_pay66]
theorem pay69_apply (a : FVec Ideal S32x1024 .f32) (v : Vec Ideal S32x1024 .bf16) (j : S32x1024.Idx) :
    (k0_pay69 (F := Ideal) a (unsq v) j : EReal) = a j + v j := by
  pointwise [k0_pay69, unsq]
theorem pay83_apply (a : FVec Ideal S32x1024 .f32) (v : Vec Ideal S32x1024 .bf16) (j : S32x1024.Idx) :
    (k0_pay83 (F := Ideal) a (unsq v) j : EReal) = k0_pay69 (F := Ideal) a (unsq v) j := by
  pointwise [k0_pay83, k0_pay82, k0_pay69, unsq]
theorem pay84_apply (v : Vec Ideal S32x1024 .bf16) (j : S32x1024.Idx) : (k0_pay84 (F := Ideal) (unsq v) j : EReal) = v j := by
  pointwise [k0_pay84, unsq]

end Cert.Attn

end
-- ==== Proof.Devices.lean ====
/-
The kernel's result over the extended reals at an index: every device holds the sum of all devices' partial sums.
-/
module

public import proofs.«01_k».proof.Proof.Math
public import proofs.«01_k».proof.Proof.Region

@[expose] public section

noncomputable section

namespace Cert.Attn

open Cert.KernelIdeal Cert.KernelIdeal.Gen
open Idealize.ShloMosaic Idealize.ShloMosaic.TcCoe

theorem mk2_eq {r k : ℕ} (a : Fin r) (b : Fin k) : mk2 a b = ix2 a b := by
  funext i; fin_cases i <;> rfl

/-! ## One device's attention -/

theorem sec_lt (R : Fin 1024) : R.val / 256 < 4 := by omega
theorem col_lt (c : Dev nD) (n : Fin 1024) : c.val * 1024 + n.val < 32768 := by
  have hc : c.val < 32 := c.isLt; omega

/-- A device's projection at a place of a block is the whole projection at the block's head. -/
theorem proj_blk {x : S4x256x1024.Idx → EReal} {w : S1024x1024.Idx → EReal} {W : (⟨2, ![1024, 32768]⟩ : Shape).Idx → EReal} (c : Dev nD)
    (hw : ∀ k n : Fin 1024, w (ix2 k n) = W (ix2 k ⟨c.val * 1024 + n.val, col_lt c n⟩)) (R n : Fin 1024) (N : ℕ)
    (hN : N = 8 * (R.val / 256) + n.val / 128) (i : Fin 256) (d : Fin 128)
    (h1 : (blkOff N 0 + i.val) / 256 < 4) (h2 : (blkOff N 0 + i.val) % 256 < 256) (h3 : blkOff N 1 + d.val < 1024)
    (h4 : (c.val * 1024 + n.val) / 128 < 256) :
    ∑ k : Fin 1024, x (ix3 ⟨(blkOff N 0 + i.val) / 256, h1⟩ ⟨(blkOff N 0 + i.val) % 256, h2⟩ k) * w (ix2 k ⟨blkOff N 1 + d.val, h3⟩)
      = projE x W ⟨R.val / 256, sec_lt R⟩ i (colE ⟨(c.val * 1024 + n.val) / 128, h4⟩ d) := by
  have hc : c.val < 32 := c.isLt
  have e0 : blkOff N 0 = 256 * (R.val / 256) := by
    show 256 * (N % 32 / 8) = _
    omega
  have e1 : blkOff N 1 = 128 * (n.val / 128) := by
    show 128 * (N % 8) = _
    omega
  unfold projE
  refine Finset.sum_congr rfl fun k _ => ?_
  rw [hw]
  refine congrArg₂ (· * ·) (congrArg x ?_) (congrArg W ?_)
  · refine congrArg₂ (fun a b => ix3 a b k) (Fin.ext ?_) (Fin.ext ?_)
    · show (blkOff N 0 + i.val) / 256 = R.val / 256
      rw [e0]; omega
    · show (blkOff N 0 + i.val) % 256 = i.val
      rw [e0]; omega
  · refine congrArg (ix2 k) (Fin.ext ?_)
    show c.val * 1024 + (blkOff N 1 + d.val) = 128 * ((c.val * 1024 + n.val) / 128) + d.val
    rw [e1]; omega

variable (m : (ℓ : Loc nD τ sig) → Buf (Elt Ideal) ℓ)

section whole

variable {x : S4x256x1024.Idx → EReal} {wq wk wv : (⟨2, ![1024, 32768]⟩ : Shape).Idx → EReal} {wo : (⟨2, ![32768, 1024]⟩ : Shape).Idx → EReal}

/-- A device's attention scratch holds its columns of the attention of all heads. -/
theorem attn_apply (c : Dev nD) (hx : X m c = x)
    (hq : ∀ k n : Fin 1024, Wq m c (ix2 k n) = wq (ix2 k ⟨c.val * 1024 + n.val, col_lt c n⟩))
    (hk : ∀ k n : Fin 1024, Wk m c (ix2 k n) = wk (ix2 k ⟨c.val * 1024 + n.val, col_lt c n⟩))
    (hv : ∀ k n : Fin 1024, Wv m c (ix2 k n) = wv (ix2 k ⟨c.val * 1024 + n.val, col_lt c n⟩)) (R n : Fin 1024) :
    attn m c (ix2 R n) = attE x wq wk wv ⟨R.val / 256, sec_lt R⟩ ⟨R.val % 256, by omega⟩ ⟨c.val * 1024 + n.val, col_lt c n⟩ := by
  subst hx
  have e : inBlk (ix2 R n) = ix2 ⟨R.val % 256, by omega⟩ ⟨n.val % 128, by omega⟩ := mk2_eq _ _
  show headBlk _ _ _ (blkOf (ix2 R n)) (inBlk (ix2 R n)) = _
  rw [e, headBlk_apply]
  simp only [pay2_apply, pay3_apply, pay4_apply]
  unfold attE
  have hd : (⟨n.val % 128, by omega⟩ : Fin 128) = ⟨(c.val * 1024 + n.val) % 128, by omega⟩ :=
    Fin.ext (by show n.val % 128 = (c.val * 1024 + n.val) % 128; omega)
  rw [hd]
  congr 1
  · funext i d; exact proj_blk c hq R n _ rfl i d _ _ _ _
  · funext i d; exact proj_blk c hk R n _ rfl i d _ _ _ _
  · funext i d; exact proj_blk c hv R n _ rfl i d _ _ _ _

end whole

/-! ## The sum over the devices -/

theorem row_lt (t : Dev nD) (r : Fin 32) : 32 * t.val + r.val < 1024 := by
  have ht : t.val < 32 := t.isLt; omega

/-- What lands in step `n` is the sender's partial sums at the receiver's rows. -/
theorem rsV_apply (t : Dev nD) {n : ℕ} (hn : n < 31) (r : Fin 32) (l : Fin 1024) :
    (rsV m t n (ix2 r l) : EReal) = accf m (back t n) (ix2 ⟨32 * t.val + r.val, row_lt t r⟩ l) := by
  refine Eq.trans ?_ (pay68_eq (attn m (back t n)) (Wo m (back t n)) _)
  show (accb m (back t n) _ : EReal) = accb m (back t n) _
  have ho := off1_eq (back t n) ⟨n % 31, Nat.mod_lt _ (by decide)⟩
  have ht : t.val < 32 := t.isLt
  refine congrArg (accb m (back t n)) (funext fun a => Fin.ext ?_)
  show k0_off1 (back t n) (BitVec.ofNat 32 (1 + (⟨n % 31, Nat.mod_lt _ (by decide)⟩ : Fin 31).val)) a + 1 * ((ix2 r l : S32x1024.Idx) a).val = _
  rw [ho]
  fin_cases a
  · show 32 * (((back t n).val + n % 31 + 1) % 32) + 1 * r.val = 32 * t.val + r.val
    simp only [back]; omega
  · show 0 + 1 * l.val = l.val
    omega

theorem red0_apply (t : Dev nD) (r : Fin 32) (l : Fin 1024) :
    redF m t 0 (ix2 r l) = accf m t (ix2 ⟨32 * t.val + r.val, row_lt t r⟩ l) := by
  show accf m t _ = accf m t _
  refine congrArg (accf m t) (funext fun a => Fin.ext ?_)
  show k0_off2 t a + 1 * ((ix2 r l : S32x1024.Idx) a).val = _
  rw [off2_eq]
  fin_cases a
  · show 32 * t.val + 1 * r.val = 32 * t.val + r.val
    omega
  · show 0 + 1 * l.val = l.val
    omega

/-- The running sum after `n` steps. -/
theorem redF_apply (t : Dev nD) (r : Fin 32) (l : Fin 1024) : ∀ n ≤ 31, redF m t n (ix2 r l)
      = accf m t (ix2 ⟨32 * t.val + r.val, row_lt t r⟩ l)
        + ∑ k ∈ Finset.range n, accf m (back t k) (ix2 ⟨32 * t.val + r.val, row_lt t r⟩ l)
  | 0, _ => by rw [red0_apply, Finset.range_zero, Finset.sum_empty, add_zero]
  | n + 1, hn => by
    show (k0_pay69 (F := Ideal) (redF m t n) (unsq (rsV m t n)) (ix2 r l) : EReal) = _
    rw [pay69_apply, redF_apply t r l n (by omega), rsV_apply m t (by omega), Finset.sum_range_succ, add_assoc]

/-- A device and the 31 that it receives from are all of them. -/
theorem sum_back (f : Dev nD → EReal) (t : Dev nD) : f t + ∑ k ∈ Finset.range 31, f (back t k) = ∑ d, f d := by
  have ht : t.val < 32 := t.isLt
  rw [← Finset.add_sum_erase Finset.univ f (Finset.mem_univ t)]
  refine congrArg (f t + ·) (Finset.sum_nbij' (back t) (fun d => (t.val + 31 - d.val) % 32) ?_ ?_ ?_ ?_ fun _ _ => rfl)
  · intro k hk
    rw [Finset.mem_range] at hk
    refine Finset.mem_erase.mpr ⟨fun h => ?_, Finset.mem_univ _⟩
    have := congrArg Fin.val h
    simp only [back] at this; omega
  · intro d hd
    have hd' : d.val < 32 := d.isLt
    have hne : d.val ≠ t.val := fun h => (Finset.mem_erase.mp hd).1 (Fin.ext h)
    rw [Finset.mem_range]; omega
  · intro k hk
    rw [Finset.mem_range] at hk
    simp only [back]; omega
  · intro d _
    have hd' : d.val < 32 := d.isLt
    apply Fin.ext; simp only [back]; omega

/-- The rows that a device sums hold the sum over all devices. -/
theorem red_apply (t : Dev nD) (r : Fin 32) (l : Fin 1024) :
    redF m t 31 (ix2 r l) = ∑ d, accf m d (ix2 ⟨32 * t.val + r.val, row_lt t r⟩ l) := by
  rw [redF_apply m t r l 31 le_rfl]
  exact sum_back (fun d => accf m d (ix2 ⟨32 * t.val + r.val, row_lt t r⟩ l)) t

/-- Every device's result is the sum over all devices. -/
theorem OUT_apply (c : Dev nD) (R l : Fin 1024) : OUT m c (ix2 R l) = ∑ d, accf m d (ix2 R l) := by
  have hR : ∀ t : Dev nD, R.val / 32 = t.val → redF m t 31 (mk2 ⟨R.val % 32, Nat.mod_lt _ (by decide)⟩ l) = ∑ d, accf m d (ix2 R l) :=
    fun t ht => by
      rw [mk2_eq, red_apply]
      have e : (⟨32 * t.val + R.val % 32, row_lt t ⟨R.val % 32, Nat.mod_lt _ (by decide)⟩⟩ : Fin 1024) = R := Fin.ext (by
        show 32 * t.val + R.val % 32 = R.val
        omega)
      exact Finset.sum_congr rfl fun d _ => congrArg (fun q => accf m d (ix2 q l)) e
  show (if R.val / 32 = c.val then red m c (mk2 ⟨R.val % 32, Nat.mod_lt _ (by decide)⟩ l)
    else k0_pay84 (F := Ideal) (unsq (redb m ⟨R.val / 32, Nat.div_lt_of_lt_mul R.isLt⟩)) (mk2 ⟨R.val % 32, Nat.mod_lt _ (by decide)⟩ l)) = _
  split
  · next h => exact hR c h
  · rw [pay84_apply]
    unfold redb
    rw [pay83_apply]
    exact hR ⟨R.val / 32, Nat.div_lt_of_lt_mul R.isLt⟩ rfl

theorem RES_apply (c : Dev nD) (b : Fin 4) (s : Fin 256) (l : Fin 1024) :
    RES m c (ix3 b s l) = OUT m c (ix2 ⟨b.val * 256 + s.val, by omega⟩ l) := by
  unfold RES
  generalize OUT m c = o
  pointwise []

/-- Every device's result is the layer's, of whole weights whose blocks the devices hold. -/
theorem RES_val {x : S4x256x1024.Idx → EReal} {wq wk wv : (⟨2, ![1024, 32768]⟩ : Shape).Idx → EReal}
    {wo : (⟨2, ![32768, 1024]⟩ : Shape).Idx → EReal} (hx : ∀ c, X m c = x)
    (hq : ∀ (c : Dev nD) (k n : Fin 1024), Wq m c (ix2 k n) = wq (ix2 k ⟨c.val * 1024 + n.val, col_lt c n⟩))
    (hk : ∀ (c : Dev nD) (k n : Fin 1024), Wk m c (ix2 k n) = wk (ix2 k ⟨c.val * 1024 + n.val, col_lt c n⟩))
    (hv : ∀ (c : Dev nD) (k n : Fin 1024), Wv m c (ix2 k n) = wv (ix2 k ⟨c.val * 1024 + n.val, col_lt c n⟩))
    (ho : ∀ (c : Dev nD) (n l : Fin 1024), Wo m c (ix2 n l) = wo (ix2 ⟨c.val * 1024 + n.val, col_lt c n⟩ l))
    (c : Dev nD) (b : Fin 4) (s : Fin 256) (l : Fin 1024) : RES m c (ix3 b s l) = resE x wq wk wv wo b s l := by
  rw [RES_apply, OUT_apply]
  unfold resE
  refine Eq.trans ?_ (Idealize.ShloMosaic.Fin.sum_univ_tiles 32 1024 (rfl : 32 * 1024 = 32768)
    (fun n : Fin 32768 => attE x wq wk wv b s n * wo (ix2 n l))).symm
  refine Finset.sum_congr rfl fun d _ => ?_
  refine (pay67_apply (attn m d) (Wo m d) _ l).trans (Finset.sum_congr rfl fun n _ => ?_)
  rw [attn_apply m d (hx d) (hq d) (hk d) (hv d), ho]
  refine congrArg₂ (fun b s => attE x wq wk wv b s _ * _) (Fin.ext ?_) (Fin.ext ?_)
  · show (b.val * 256 + s.val) / 256 = b.val
    omega
  · show (b.val * 256 + s.val) % 256 = s.val
    omega

end Cert.Attn

end
-- ==== Proof.RefValue.lean ====
/-
The reference's value over the extended reals at an index.
-/
module

public import proofs.«01_k».proof.Proof.Math
public import proofs.«01_k».proof.Proof.Gen.ReferenceIdeal
public import proofs.«01_k».proof.Proof.Gen.ReferenceIdeal.Run

@[expose] public section

noncomputable section

namespace Cert.Attn.Ref

open Cert.ReferenceIdeal Cert.ReferenceIdeal.Gen
open Idealize.ShloMosaic Idealize.ShloMosaic.TcCoe

/-! ## The reference's stages -/

/-- A projection, its columns in heads. -/
def pr (x : FVec Ideal S4x256x1024 .f32) (w : FVec Ideal S1024x32768 .f32) : FVec Ideal S4x256x256x128 .f32 :=
  shapeCast S4x256x256x128 (Host.dotGeneral dot_S4x256x1024_S1024x32768_S4x256x32768_2_0_01_1_n_n none x w) shapeCasts_S4x256x32768_S4x256x256x128
/-- The scaled scores of every batch and head. -/
def sc (q k : FVec Ideal S4x256x256x128 .f32) : FVec Ideal S4x256x256x256 .f32 :=
  mulf (Host.dotGeneral dot_S4x256x256x128_S4x256x256x128_S4x256x256x256_3_3_1_1_02_02 none q k)
    (broadcastInDim S4x256x256x256 ![] bcast_S_S4x256x256x256 (constant S_ .f32 0x3DB504F3#32))
/-- Each row's maximum. -/
def rm (s : FVec Ideal S4x256x256x256 .f32) : FVec Ideal S4x256x256 .f32 :=
  Host.reduce FloatOps.maximumf s (constant S_ .f32 0xFF800000#32) reducesTo_S4x256x256x256_S4x256x256_d3 h_S_
/-- The running maximum, after one block of keys of which the rows' maxima are `r`. -/
def mx (r : FVec Ideal S4x256x256 .f32) : FVec Ideal S4x256x256x1 .f32 :=
  maximumf (broadcastInDim S4x256x256x1 ![] bcast_S_S4x256x256x1 (constant S_ .f32 0xFF800000#32))
    (broadcastInDim S4x256x256x1 ![0, 1, 2] bcast_S4x256x256_S4x256x256x1_0_1_2 r)
/-- The factor by which the earlier sums are rescaled. -/
def al (s : FVec Ideal S4x256x256x256 .f32) : FVec Ideal S4x256x256x1 .f32 :=
  Host.exp (subf (broadcastInDim S4x256x256x1 ![] bcast_S_S4x256x256x1 (constant S_ .f32 0xFF800000#32)) (mx (rm s)))
/-- The exponentials. -/
def ex (s : FVec Ideal S4x256x256x256 .f32) : FVec Ideal S4x256x256x256 .f32 :=
  Host.exp (subf s (broadcastInDim S4x256x256x256 ![0, 1, 2, 3] bcast_S4x256x256x1_S4x256x256x256_0_1_2_3 (mx (rm s))))
/-- The sum of the exponentials. -/
def sm (s : FVec Ideal S4x256x256x256 .f32) : FVec Ideal S4x256x256x1 .f32 :=
  addf (mulf (broadcastInDim S4x256x256x1 ![] bcast_S_S4x256x256x1 (constant S_ .f32 0x00000000#32)) (al s))
    (broadcastInDim S4x256x256x1 ![0, 1, 2] bcast_S4x256x256_S4x256x256x1_0_1_2
      (Host.reduceAdd (ex s) (constant S_ .f32 0x00000000#32) reducesTo_S4x256x256x256_S4x256x256_d3 h_S_))
/-- The weighted values. -/
def wv (s : FVec Ideal S4x256x256x256 .f32) (v : FVec Ideal S4x256x256x128 .f32) : FVec Ideal S4x256x256x128 .f32 :=
  addf (mulf (broadcastInDim S4x256x256x128 ![] bcast_S_S4x256x256x128 (constant S_ .f32 0x00000000#32))
      (broadcastInDim S4x256x256x128 ![0, 1, 2, 3] bcast_S4x256x256x1_S4x256x256x128_0_1_2_3
        (transpose S4x256x256x1 [0, 2, 1, 3] (al s) transposes_S4x256x256x1_S4x256x256x1_0_2_1_3)))
    (transpose S4x256x256x128 [0, 3, 1, 2]
      (Host.dotGeneral dot_S4x256x256x128_S4x256x256x256_S4x256x128x256_1_3_3_2_02_01 none v (ex s)) transposes_S4x256x128x256_S4x256x256x128_0_3_1_2)
/-- The attention. -/
def att (s : FVec Ideal S4x256x256x256 .f32) (v : FVec Ideal S4x256x256x128 .f32) : FVec Ideal S4x256x256x128 .f32 :=
  Host.divf (wv s v) (broadcastInDim S4x256x256x128 ![0, 1, 2, 3] bcast_S4x256x256x1_S4x256x256x128_0_1_2_3
    (transpose S4x256x256x1 [0, 2, 1, 3] (sm s) transposes_S4x256x256x1_S4x256x256x1_0_2_1_3))
/-- The result. -/
def out (a : FVec Ideal S4x256x256x128 .f32) (wo : FVec Ideal S32768x1024 .f32) : FVec Ideal S4x256x1024 .f32 :=
  Host.dotGeneral dot_S4x256x32768_S32768x1024_S4x256x1024_2_0_01_1_n_n none (shapeCast S4x256x32768 a shapeCasts_S4x256x256x128_S4x256x32768) wo

/-! ## The stages at an index -/

set_option maxRecDepth 16384

theorem pr_apply (x : FVec Ideal S4x256x1024 .f32) (w : FVec Ideal S1024x32768 .f32) (b : Fin 4) (i h : Fin 256) (d : Fin 128) :
    pr x w (ix4 b i h d) = projE x w b i (colE h d) := by
  pointwise [pr]
  unfold projE colE
  have e : h.val * 128 = 128 * h.val := Nat.mul_comm _ _
  simp only [e]

theorem sc_apply (q k : FVec Ideal S4x256x256x128 .f32) (b : Fin 4) (h i j : Fin 256) :
    sc q k (ix4 b h i j) = scoreE (fun i d => q (ix4 b i h d)) (fun i d => k (ix4 b i h d)) i j := by
  pointwise [sc]
  rfl

/-- A maximum over the last of four axes, whatever their sizes. -/
theorem max_last {n0 n1 n2 n3 : ℕ} (s : FVec Ideal ⟨4, ![n0, n1, n2, n3]⟩ .f32) (u : FVec Ideal S_ .f32)
    (h : (⟨4, ![n0, n1, n2, n3]⟩ : Shape).ReducesTo [3] ⟨3, ![n0, n1, n2]⟩) (i : Fin n0) (j : Fin n1) (k : Fin n2) :
    Host.reduce FloatOps.maximumf s u h h_S_ (ix3 i j k) = Finset.fold max (u (Shape.Idx.first h_S_)) (fun l => s (ix4 i j k l)) Finset.univ := by
  rw [Host.reduce_eq_fold, Shape.ReducesTo.fold_fiber_r4_a3]
  rfl

theorem rm_apply (s : FVec Ideal S4x256x256x256 .f32) (b : Fin 4) (h i : Fin 256) :
    rm s (ix3 b h i) = Finset.fold max lowE (fun j => s (ix4 b h i j)) Finset.univ :=
  max_last s _ _ b h i

theorem mx_apply (r : FVec Ideal S4x256x256 .f32) (b : Fin 4) (h i : Fin 256) : mx r (ix4 b h i 0) = max lowE (r (ix3 b h i)) := by
  pointwise [mx]

/-- The first block's running maximum is the rows' maximum. -/
theorem mx_rm (s : FVec Ideal S4x256x256x256 .f32) (b : Fin 4) (h i : Fin 256) :
    mx (rm s) (ix4 b h i 0) = Finset.fold max lowE (fun j => s (ix4 b h i j)) Finset.univ := by
  rw [mx_apply, rm_apply]
  exact max_eq_right ((Finset.le_fold_max lowE).mpr (Or.inl le_rfl))

theorem ex_apply (s : FVec Ideal S4x256x256x256 .f32) (b : Fin 4) (h i j : Fin 256) :
    ex s (ix4 b h i j) = Ideal.exp (s (ix4 b h i j) - mx (rm s) (ix4 b h i 0)) := by
  pointwise [ex]

theorem sm_apply (s : FVec Ideal S4x256x256x256 .f32) (b : Fin 4) (h i : Fin 256) :
    sm s (ix4 b h i 0) = ∑ j, ex s (ix4 b h i j) := by
  pointwise [sm]
  rw [zero_mul, zero_add]

theorem wv_apply (s : FVec Ideal S4x256x256x256 .f32) (v : FVec Ideal S4x256x256x128 .f32) (b : Fin 4) (i h : Fin 256) (d : Fin 128) :
    wv s v (ix4 b i h d) = ∑ j, ex s (ix4 b h i j) * v (ix4 b j h d) := by
  pointwise [wv]
  rw [zero_mul, zero_add]
  exact Finset.sum_congr rfl fun j _ => mul_comm _ _

theorem att_apply (s : FVec Ideal S4x256x256x256 .f32) (v : FVec Ideal S4x256x256x128 .f32) (b : Fin 4) (i h : Fin 256) (d : Fin 128) :
    att s v (ix4 b i h d) = Ideal.div (wv s v (ix4 b i h d)) (sm s (ix4 b h i 0)) := by
  pointwise [att]

theorem out_apply (a : FVec Ideal S4x256x256x128 .f32) (wo : FVec Ideal S32768x1024 .f32) (b : Fin 4) (i : Fin 256) (l : Fin 1024) :
    out a wo (ix3 b i l) = ∑ n : Fin 32768, a (ix4 b i ⟨n.val / 128, by omega⟩ ⟨n.val % 128, by omega⟩) * wo (ix2 n l) := by
  pointwise [out]

/-- The attention at an index is one head's attention of the projections. -/
theorem att_head (x : FVec Ideal S4x256x1024 .f32) (wq wk wv : FVec Ideal S1024x32768 .f32) (b : Fin 4) (i h : Fin 256) (d : Fin 128) :
    att (sc (pr x wq) (pr x wk)) (pr x wv) (ix4 b i h d)
      = headE (fun i d => projE x wq b i (colE h d)) (fun i d => projE x wk b i (colE h d)) (fun i d => projE x wv b i (colE h d)) i d := by
  have e : ∀ j, ex (sc (pr x wq) (pr x wk)) (ix4 b h i j)
      = expE (fun i d => projE x wq b i (colE h d)) (fun i d => projE x wk b i (colE h d)) i j := fun j => by
    rw [ex_apply, mx_rm]; simp only [sc_apply, pr_apply]; rfl
  rw [att_apply, wv_apply, sm_apply]
  simp only [e, pr_apply]
  rfl

/-- The reference's result at an index. -/
theorem res_apply (x : FVec Ideal S4x256x1024 .f32) (wq wk wv : FVec Ideal S1024x32768 .f32) (wo : FVec Ideal S32768x1024 .f32)
    (b : Fin 4) (i : Fin 256) (l : Fin 1024) :
    out (att (sc (pr x wq) (pr x wk)) (pr x wv)) wo (ix3 b i l) = resE x wq wk wv wo b i l := by
  rw [out_apply]
  simp only [att_head]
  rfl

/-- The reference's composed term is these stages. -/
theorem res_eq (m : (ℓ : Loc nD τ sig) → Buf (Elt Ideal) ℓ) (c : Dev nD) :
    Cert.ReferenceIdeal.Value.res_main_v34 (F := Ideal) m c
      = out (att (sc (pr (m ((c.tc : Thread nD τ).loc main_arg0)) (m ((c.tc : Thread nD τ).loc main_arg1)))
            (pr (m ((c.tc : Thread nD τ).loc main_arg0)) (m ((c.tc : Thread nD τ).loc main_arg2))))
          (pr (m ((c.tc : Thread nD τ).loc main_arg0)) (m ((c.tc : Thread nD τ).loc main_arg3)))) (m ((c.tc : Thread nD τ).loc main_arg4)) := by
  unfold Cert.ReferenceIdeal.Value.res_main_v34
  rfl

end Cert.Attn.Ref

end
-- ==== Proof.Value.lean ====
/-
The kernel and the reference compute the same function over the extended reals.
-/
module

public import proofs.«01_k».proof.Defs
public import proofs.«01_k».proof.Proof.Run
public import proofs.«01_k».proof.Proof.Devices
public import proofs.«01_k».proof.Proof.RefValue

@[expose] public section

noncomputable section

namespace Cert.Attn

open Cert.KernelIdeal Cert.KernelIdeal.Gen
open Idealize.ShloMosaic Idealize.ShloMosaic.TcCoe Idealize.SL.Sem

/-- Two results are one if they agree at every batch, position and column. -/
theorem ext3 {f g : S4x256x1024.Idx → EReal} (h : ∀ (b : Fin 4) (s : Fin 256) (l : Fin 1024), f (ix3 b s l) = g (ix3 b s l)) : f = g := by
  funext i
  have e : i = ix3 (i 0) (i 1) (i 2) := eq_ix3 i
  rw [e]
  exact h _ _ _

/-- A block of columns at an index of the block. -/
theorem block_col (W : (⟨2, ![1024, 32768]⟩ : Shape).Idx → EReal) (h : Layout.Tiles ⟨2, ![1024, 1024]⟩ ⟨2, ![1024, 32768]⟩ 1 32) (c : Dev nD)
    (k n : Fin 1024) : Layout.block ⟨2, ![1024, 1024]⟩ ⟨2, ![1024, 32768]⟩ 1 32 c W h (ix2 k n) = W (ix2 k ⟨c.val * 1024 + n.val, col_lt c n⟩) := by
  refine congrArg W (funext fun a => Fin.ext ?_)
  fin_cases a <;> rfl

/-- A block of rows at an index of the block. -/
theorem block_row (W : (⟨2, ![32768, 1024]⟩ : Shape).Idx → EReal) (h : Layout.Tiles ⟨2, ![1024, 1024]⟩ ⟨2, ![32768, 1024]⟩ 0 32) (c : Dev nD)
    (n l : Fin 1024) : Layout.block ⟨2, ![1024, 1024]⟩ ⟨2, ![32768, 1024]⟩ 0 32 c W h (ix2 n l) = W (ix2 ⟨c.val * 1024 + n.val, col_lt c n⟩ l) := by
  refine congrArg W (funext fun a => Fin.ext ?_)
  fin_cases a <;> rfl

/-- Every device's result is the reference's. -/
theorem algebraic : Cert.algebraic_KernelIdeal_ReferenceIdeal := by
  intro m g m' g' _ hm
  have hv : ∀ c : Dev nD, RES m c = Cert.ReferenceIdeal.Value.res_main_v34 (F := Ideal) m' 0 := fun c => by
    rw [Ref.res_eq]
    refine ext3 fun b s l => ?_
    rw [Ref.res_apply]
    exact RES_val m (fun c => (hm c).1)
      (fun c k n => (congrFun (hm c).2.1 (ix2 k n)).trans (block_col _ _ c k n))
      (fun c k n => (congrFun (hm c).2.2.1 (ix2 k n)).trans (block_col _ _ c k n))
      (fun c k n => (congrFun (hm c).2.2.2.1 (ix2 k n)).trans (block_col _ _ c k n))
      (fun c n l => (congrFun (hm c).2.2.2.2 (ix2 n l)).trans (block_row _ _ c n l)) c b s l
  refine ⟨Cert.ReferenceIdeal.Value.res_main_v34 (F := Ideal) m' 0, ?_, ?_⟩
  · exact (θ_run Cert.KernelIdeal.defs _ _).mono (fun _ h c =>
      ⟨(h.1 c).2.trans (hv c), (h.1 c).1.1, (h.1 c).1.2.1, (h.1 c).1.2.2.2.1, (h.1 c).1.2.2.2.2, (h.1 c).1.2.2.1⟩) (run_main (F := Ideal) m g)
  · exact (θ_run Cert.ReferenceIdeal.defs _ _).mono (fun _ h => h 0) (Cert.ReferenceIdeal.Value.run (F := Ideal) m' g')

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn.frame_kernel, Cert.Attn.frame_ideal, Cert.Attn.frame_ref, trivial, Cert.Attn.algebraic⟩

end Cert.Proof

end
